-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 8192]⟩ (Layout.meshBlock [2, 2] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x32 : Shape := ⟨2, ![512, 32]⟩

abbrev nBuf : Space → Nat
  | .hbm => 2
  | .vmem => 5
  | .smem => 0
  | _ => 0

abbrev bufTy : (tb : Table) → Fin (tcTables nBuf tb) → BufTy
  | .hbm, ⟨0, _⟩ => ⟨S512x4096, .bf16⟩
  | .hbm, ⟨1, _⟩ => ⟨S512x16, .f32⟩
  | .local _ .vmem, ⟨0, _⟩ => ⟨S512x4096, .bf16⟩
  | .local _ .vmem, ⟨1, _⟩ => ⟨S512x16, .f32⟩
  | .local _ .vmem, ⟨2, _⟩ => ⟨S512x4096, .bf16⟩
  | .local _ .vmem, ⟨3, _⟩ => ⟨S512x16, .bf16⟩
  | .local _ .vmem, ⟨4, _⟩ => ⟨S512x16, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_154 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_153 : BitVec 32 := 2#32
  let v370 : BitVec 32 := Scalar.muli v6 c2_i32_153
  let v371 : BitVec 32 := Scalar.addi c0_i32_154 v370
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_155 : BitVec 32 := 1#32
  let v372 : BitVec 32 := Scalar.muli v5 c1_i32_155
  let v373 : BitVec 32 := Scalar.addi v371 v372
  v373.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S512x8192, .f32⟩
  | .hbm, ⟨2, _⟩ => ⟨S512x8192, .f32⟩
  | .hbm, ⟨3, _⟩ => ⟨S512x8192, .i32⟩
  | .hbm, ⟨4, _⟩ => ⟨S512x8192, .f32⟩
  | .hbm, ⟨5, _⟩ => ⟨S512x8192, .i32⟩
  | .hbm, ⟨6, _⟩ => ⟨S512x16, .i32⟩
  | .hbm, ⟨7, _⟩ => ⟨S_, .i32⟩
  | .hbm, ⟨8, _⟩ => ⟨S512x16, .i32⟩
  | .hbm, ⟨9, _⟩ => ⟨S512x16, .i1⟩
  | .hbm, ⟨10, _⟩ => ⟨S_, .i32⟩
  | .hbm, ⟨11, _⟩ => ⟨S512x16, .i32⟩
  | .hbm, ⟨12, _⟩ => ⟨S512x16, .i32⟩
  | .hbm, ⟨13, _⟩ => ⟨S512x16, .i32⟩
  | .hbm, ⟨14, _⟩ => ⟨S512x16x1, .i32⟩
  | .hbm, ⟨15, _⟩ => ⟨S1, .i32⟩
  | .hbm, ⟨16, _⟩ => ⟨S_, .i32⟩
  | .hbm, ⟨17, _⟩ => ⟨S512x16x1, .i32⟩
  | .hbm, ⟨18, _⟩ => ⟨S512x16x1, .i1⟩
  | .hbm, ⟨19, _⟩ => ⟨S1x1x1, .i32⟩
  | .hbm, ⟨20, _⟩ => ⟨S512x16x1, .i32⟩
  | .hbm, ⟨21, _⟩ => ⟨S512x16x1, .i1⟩
  | .hbm, ⟨22, _⟩ => ⟨S512x16x1, .i1⟩
  | .hbm, ⟨23, _⟩ => ⟨S_, .i1⟩
  | .hbm, ⟨24, _⟩ => ⟨S512x16, .i1⟩
  | .hbm, ⟨25, _⟩ => ⟨S512x16, .f32⟩
  | .hbm, ⟨26, _⟩ => ⟨S_, .f32⟩
  | .hbm, ⟨27, _⟩ => ⟨S512x16, .f32⟩
  | .hbm, ⟨28, _⟩ => ⟨S512x16, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Extract.lean ====
/-
  What the kernel computes from blocks, as functions of the values read — for any float values `F`.

  One round of the kernel takes the maximum of every row, then the first position of the row that holds it, and
  sets that position to −∞. The rounds run on the device's own block (kept as bf16, widened to f32 for the round)
  and then on the 32 candidates of a row, its own 16 and its partner's 16. This module names the round
  (`rowMax`, `dropFirst`), what the two buffers hold after `k` rounds (`workAt`, `candAt`), the columns written
  (`topCol`, `outCol`), and proves that 16 column writes leave exactly the array of those columns (`fill_all`).
-/
module

public import proofs.«01_k».proof.Proof.Gen.KernelIdeal
public import proofs.«01_k».proof.Proof.Gen.KernelIdeal.Skeleton
public import Idealize.ShloMosaic.Lib.ValueIdxCore

@[expose] public section

noncomputable section

namespace Cert.TopK

open Cert.KernelIdeal Cert.KernelIdeal.Gen
open Idealize.ShloMosaic Idealize.ShloMosaic.ValueIdx

variable {F : FTy → Type} [FloatOps F]

/-! ## One round, on 512 rows of any length -/

/-- 512 rows of `n` entries. -/
abbrev Rows (n : ℕ) : Shape := ⟨2, ![512, n]⟩

section Round
variable {n : ℕ} (hr : (Rows n).Reduces [1] S512) (hb : S512x1.Broadcasts (Rows n))

/-- Every row's maximum, as a column. -/
def rowMax (v : FVec F (Rows n) .f32) : FVec F S512x1 .f32 :=
  shapeCast S512x1 (multiReduction .maximumf [1] S512 v 0xFF800000#32 hr (.inl rfl) rfl) shapeCasts_S512_S512x1

/-- The position of an entry where it equals its row's maximum, `miss` elsewhere. -/
def hits (pos : IVec (Rows n) 32) (miss : BitVec 32) (v : FVec F (Rows n) .f32) : IVec (Rows n) 32 :=
  select (cmpf .oeq v (broadcastTo (Rows n) (rowMax hr v) hb)) pos (broadcast (Rows n) miss)

/-- The rows with the first entry that equals the row's maximum replaced by −∞. -/
def dropFirst (pos : IVec (Rows n) 32) (miss : BitVec 32) (v : FVec F (Rows n) .f32) : FVec F (Rows n) .f32 :=
  select (cmpi .eq pos (broadcastTo (Rows n)
      (shapeCast S512x1 (multiReductionI .minsi [1] S512 (hits hr hb pos miss v) 2147483647#32 hr rfl) shapeCasts_S512_S512x1) hb))
    (broadcast (Rows n) (Scalar.ofBits .f32 0xFF800000#32)) v

end Round

/-! ## The first phase: the device's own block -/

/-- The positions along a row of a block, as 32-bit words. -/
def posBlock : IVec S512x4096 32 := iota .tc S512x4096 32 [1] iota_S512x4096_d1_w32

/-- The work buffer's next contents: widened, the first maximum of every row dropped, narrowed. -/
def workNext (w : FVec F S512x4096 .bf16) : FVec F S512x4096 .bf16 :=
  shapeCast S512x4096 (truncf .bf16
    (dropFirst reduces_S512x4096_S512 broadcasts_S512x1_S512x4096 posBlock 4096#32 (extf .f32 w bitsLt_bf16_f32)) bitsLt_bf16_f32)
    shapeCasts_S512x4096_S512x4096

/-- The work buffer after `k` rounds from the block `x`. -/
def workAt (x : FVec F S512x4096 .bf16) : ℕ → FVec F S512x4096 .bf16
  | 0 => shapeCast S512x4096 (shapeCast S512x4096 x shapeCasts_S512x4096_S512x4096) shapeCasts_S512x4096_S512x4096
  | k + 1 => workNext (workAt x k)

/-- Column `k` of the device's own maxima: the row maxima of the work buffer after `k` rounds. -/
def topCol (x : FVec F S512x4096 .bf16) (k : ℕ) : FVec F S512x1 .bf16 :=
  shapeCast S512x1 (truncf .bf16 (rowMax reduces_S512x4096_S512 (extf .f32 (workAt x k) bitsLt_bf16_f32)) bitsLt_bf16_f32)
    shapeCasts_S512x1_S512x1

/-! ## The second phase: the 32 candidates of a row -/

/-- The positions along a row of the candidates. -/
def posCand : IVec S512x32 32 := iota .tc S512x32 32 [1] iota_S512x32_d1_w32

/-- The candidates' next contents. -/
def candNext (v : FVec F S512x32 .f32) : FVec F S512x32 .f32 :=
  dropFirst reduces_S512x32_S512 broadcasts_S512x1_S512x32 posCand 32#32 v

/-- The candidates' positions that hold their row's maximum. -/
def candHits (v : FVec F S512x32 .f32) : IVec S512x32 32 :=
  hits reduces_S512x32_S512 broadcasts_S512x1_S512x32 posCand 32#32 v

/-- The candidates after `k` rounds: at first the device's own maxima followed by its partner's. -/
def candAt (a b : FVec F S512x16 .bf16) : ℕ → FVec F S512x32 .f32
  | 0 => extf .f32 (concatenate S512x32 1 [⟨S512x16, a⟩, ⟨S512x16, b⟩] concatenates_S512x16_S512x16_S512x32_d1) bitsLt_bf16_f32
  | k + 1 => candNext (candAt a b k)

/-- Column `k` of the result: the row maxima of the candidates after `k` rounds. -/
def outCol (a b : FVec F S512x16 .bf16) (k : ℕ) : FVec F S512x1 .f32 := rowMax reduces_S512x32_S512 (candAt a b k)

/-! ## Sixteen column writes -/

section Fill
variable {α : Type}

/-- The array with column `k` replaced. -/
def setCol (k : ℕ) (col : S512x1.Idx → α) (f : S512x16.Idx → α) : S512x16.Idx → α :=
  fun i => if (i 1).val = k then col (ix2 (i 0) (0 : Fin 1)) else f i

/-- The array after its first `k` columns have been written. -/
def fill (cols : ℕ → S512x1.Idx → α) (f : S512x16.Idx → α) : ℕ → (S512x16.Idx → α)
  | 0 => f
  | k + 1 => setCol k (cols k) (fill cols f k)

/-- The array of given columns. -/
def ofCols (cols : ℕ → S512x1.Idx → α) : S512x16.Idx → α := fun i => cols (i 1).val (ix2 (i 0) (0 : Fin 1))

/-- After `k` writes the first `k` columns are the ones written, the others as before. -/
theorem fill_apply (cols : ℕ → S512x1.Idx → α) (f : S512x16.Idx → α) (k : ℕ) (i : S512x16.Idx) :
    fill cols f k i = if (i 1).val < k then ofCols cols i else f i := by
  induction k with
  | zero => rfl
  | succ k ih =>
    unfold fill setCol
    by_cases h : (i 1).val = k
    · rw [if_pos h, if_pos (by omega)]; unfold ofCols; rw [h]
    · rw [if_neg h, ih]
      by_cases h' : (i 1).val < k
      · rw [if_pos h', if_pos (by omega)]
      · rw [if_neg h', if_neg (by omega)]

/-- After sixteen writes nothing of what the array held before is left. -/
theorem fill_all (cols : ℕ → S512x1.Idx → α) (f : S512x16.Idx → α) : fill cols f 16 = ofCols cols :=
  funext fun i => by rw [fill_apply, if_pos (show (i 1).val < 16 from (i 1).isLt)]

end Fill

/-! ## The two phases' results -/

/-- A device's own 16 maxima of every row. -/
def topOf (x : FVec F S512x4096 .bf16) : FVec F S512x16 .bf16 := ofCols (topCol x)

/-- The result from the device's own maxima and its partner's. -/
def outOf (a b : FVec F S512x16 .bf16) : FVec F S512x16 .f32 := ofCols (outCol a b)

end Cert.TopK

end
-- ==== Proof.Protocol.lean ====
/-
  The exchange between two partner devices, as a schedule of duties on semaphore cells.

  Device `2x + y` works with device `2(1 − x) + y`, its partner (`mate`): each signals the other's barrier, waits for the
  signal on its own, copies its 16 maxima of every row into the other's landing buffer, and waits for its own copy to
  have left and for the other's to have arrived. Every cell has one duty, in round 0:
  * barrier, one unit, paid by the mate's signal: it brings the mate's landing buffer, and that the mate's receive cell is
    in its first round;
  * send, the block's credit, paid when the copy has left: it brings the device's maxima back;
  * receive, the block's credit, paid when the mate's copy lands: it brings the landing buffer holding the mate's maxima.
  The levels order the waits: barrier cells at 1, receive cells at 2, all others at 0.
-/
module

public import proofs.«01_k».proof.Proof.Extract
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the staging copies' rounds beside the exchange's. -/
abbrev XU : Type := URounds (GSem nD τ sig) Unit
abbrev AllU : Type := UR sig nD τ × XU

local notation "𝕄" => MT nD τ sig Unit (Elt F) ℕ AllU ℕ

abbrev EP : Emb (UR sig nD τ) (MT nD τ sig Unit (Elt F) ℕ AllU ℕ) := embL
abbrev EX : Emb XU (MT nD τ sig Unit (Elt F) ℕ AllU ℕ) := embR

variable (m : (ℓ : Loc nD τ sig) → Buf (Elt F) ℓ) (ρ : Dev nD → PrngReg)

/-- The state at launch: any memory, every counter zero. -/
def start0 : MemSt nD τ sig (Elt F) := ⟨m, fun _ => 0, ρ⟩

/-! ## The partner -/

set_option backward.proofsInPublic true in
/-- The device with the other `x` coordinate and the same `y`. -/
def mate (c : Dev nD) : Dev nD := ⟨(c.val + 2) % 4, Nat.mod_lt _ (by decide)⟩

theorem mate_mate (c : Dev nD) : mate (mate c) = c := by revert c; decide

/-- Both device chains of the body, the signal's and the copy's, name the partner. -/
theorem dev1_mate (c : Dev nD) : (⟨k0_dev1 c, k0_dev1_lt c⟩ : Dev nD) = mate c :=
  Fin.ext ((k0_dev1_eq c).trans (by revert c; decide))
theorem dev2_mate (c : Dev nD) : (⟨k0_dev2 c, k0_dev2_lt c⟩ : Dev nD) = mate c :=
  Fin.ext ((k0_dev2_eq c).trans (by revert c; decide))

def swap : Dev nD ≃ Dev nD := ⟨mate, mate, mate_mate, mate_mate⟩

/-! ## Buffers and cells -/

abbrev xM : Memref sig .tc .vmem S512x4096 .bf16 := Memref.whole cc0_stg0_0
abbrev outM : Memref sig .tc .vmem S512x16 .f32 := Memref.whole cc0_stg1_0
abbrev workM : Memref sig .tc .vmem S512x4096 .bf16 := Memref.whole cc0_scratch0
abbrev mineM : Memref sig .tc .vmem S512x16 .bf16 := Memref.whole cc0_scratch1
abbrev landM : Memref sig .tc .vmem S512x16 .bf16 := Memref.whole cc0_scratch2

abbrev barS : Sem sig := (SemArray.scalar (sig.barrier 0 rfl) : Sems sig S_).sem
abbrev sndS : DmaSems sig S_ := cc0_scratch3
abbrev rcvS : DmaSems sig S_ := cc0_scratch4

abbrev barCell (c : Dev nD) : GSem nD τ sig := ((c : Thread nD τ), .reg barS)
abbrev sndCell (c : Dev nD) : GSem nD τ sig := ((c : Thread nD τ), .dma sndS.sem)
abbrev rcvCell (c : Dev nD) : GSem nD τ sig := ((c : Thread nD τ), .dma rcvS.sem)

/-- The semaphores the launch allocates for the kernel: send and receive; -/
abbrev ownSem : Fin 2 → SemLoc sig := fun | 0 => .dma sndS.sem | 1 => .dma rcvS.sem
/-- and all three of the exchange: barrier, send, receive. -/
abbrev exSem : Fin 3 → SemLoc sig := fun | 0 => .reg barS | 1 => .dma sndS.sem | 2 => .dma rcvS.sem
abbrev exCell (ck : Dev nD × Fin 3) : GSem nD τ sig := ((ck.1 : Thread nD τ), exSem ck.2)

theorem snd_ne_bar : (SemLoc.dma sndS.sem : SemLoc sig) ≠ .reg barS := fun h => by cases h
theorem rcv_ne_bar : (SemLoc.dma rcvS.sem : SemLoc sig) ≠ .reg barS := fun h => by cases h
theorem snd_ne_rcv : (SemLoc.dma sndS.sem : SemLoc sig) ≠ .dma rcvS.sem := by decide

/-- The credit of one copy of a device's maxima. -/
abbrev N : ℕ := (landM : Memref sig .tc .vmem S512x16 .bf16).view.dmaCredit
theorem N_pos : 0 < N := View.dmaCredit_pos _ (by decide)

/-! ## What the buffers hold -/

/-- Device `c`'s block of `x`, as the launch copies it in. -/
def xBlock (c : Dev nD) : FVec F S512x4096 .bf16 :=
  (win0_0.blk (0 : Fin 1)).view.read (Elt F) ((start0 m ρ).mem ((c : Thread nD τ).loc main_arg0))

/-- Device `c`'s own maxima. -/
def topAt (c : Dev nD) : FVec F S512x16 .bf16 := topOf (xBlock m ρ c)

/-- Device `c`'s result. -/
def outAt (c : Dev nD) : FVec F S512x16 .f32 := outOf (topAt m ρ c) (topAt m ρ (mate c))

def landPts (c : Dev nD) (f : FVec F S512x16 .bf16) : sProp 𝕄 :=
  (landM : Memref sig .tc .vmem S512x16 .bf16).view.loc (c : Thread nD τ) ↦[(landM : Memref sig .tc .vmem S512x16 .bf16).view.set]{fullShare} f
def minePts (c : Dev nD) (f : FVec F S512x16 .bf16) : sProp 𝕄 :=
  (mineM : Memref sig .tc .vmem S512x16 .bf16).view.loc (c : Thread nD τ) ↦[(mineM : Memref sig .tc .vmem S512x16 .bf16).view.set]{fullShare} f

omit [FloatOps F] in
instance landPts_storable (c : Dev nD) (f) : BI.Storable (upEmb : UEmb _ 𝕄) (landPts (F := F) c f) := by unfold landPts; infer_instance
omit [FloatOps F] in
instance minePts_storable (c : Dev nD) (f) : BI.Storable (upEmb : UEmb _ 𝕄) (minePts (F := F) c f) := by unfold minePts; infer_instance

omit [FloatOps F] in
theorem landPts_eq (c : Dev nD) (f : FVec F S512x16 .bf16) :
    landPts c f = (((c : Thread nD τ).loc cc0_scratch2) ↦{fullShare} f : sProp 𝕄) := by unfold landPts; rw [View.set_whole]
omit [FloatOps F] in
theorem minePts_eq (c : Dev nD) (f : FVec F S512x16 .bf16) :
    minePts c f = (((c : Thread nD τ).loc cc0_scratch1) ↦{fullShare} f : sProp 𝕄) := by unfold minePts; rw [View.set_whole]

omit [FloatOps F] in
/-- A copy of the whole buffer of maxima replaces whatever the landing buffer held. -/
theorem landing (fd fs : FVec F S512x16 .bf16) :
    (landM : Memref sig .tc .vmem S512x16 .bf16).view.write (Elt F) fd
      ((mineM : Memref sig .tc .vmem S512x16 .bf16).view.read (Elt F) fs) Finset.univ = fs := by
  show (View.whole cc0_scratch2).write (Elt F) fd ((View.whole cc0_scratch1).read (Elt F) fs) Finset.univ = fs
  rw [View.read_whole]
  exact View.write_whole_univ _ _ _

/-! ## The schedule -/

/-- What the mate's signal brings device `c`. -/
def barPay (c : Dev nD) : sProp 𝕄 := iprop((∃ f, landPts (mate c) f) ∗ reached EX (rcvCell (mate c)) 0)

/-- The payload of a cell, by which of the three semaphores it is. -/
def payOf (c : Dev nD) (sm : SemLoc sig) : sProp 𝕄 :=
  if sm = .reg barS then barPay c
  else if sm = .dma rcvS.sem then landPts c (topAt m ρ (mate c))
  else if sm = .dma sndS.sem then minePts c (topAt m ρ c)
  else iprop(emp)

/-- One duty per cell of the exchange, all in round 0. -/
def plan : Rounds.Schedule (GSem nD τ sig) Unit 𝕄 where
  duties g r := if r = 0 ∧ g.1.2 = .tc ∧ (g.2 = .reg barS ∨ g.2 = .dma sndS.sem ∨ g.2 = .dma rcvS.sem) then {()} else ∅
  unitless _ := False
  amount g _ _ := if g.2 = .reg barS then 1 else N
  payload g _ _ := payOf m ρ g.1.1 g.2
  amount_pos g _ _ _ := by
    by_cases h : g.2 = .reg barS
    · rw [if_pos h]; exact Nat.one_pos
    · rw [if_neg h]; exact N_pos

instance plan_storable (g : GSem nD τ sig) (r : ℕ) (d : Unit) :
    BI.Storable (upEmb : UEmb _ 𝕄) ((plan (F := F) m ρ).payload g r d) := by
  show BI.Storable upEmb (payOf m ρ g.1.1 g.2)
  unfold payOf barPay
  (repeat' split) <;> infer_instance

section Plan
variable (c : Dev nD)

/-- Every cell of the exchange has its duty in round 0, -/
theorem duty (k : Fin 3) : (plan (F := F) m ρ).duties (exCell (c, k)) 0 = {()} := by
  dsimp only [plan]
  exact if_pos ⟨rfl, rfl, by fin_cases k; exacts [.inl rfl, .inr (.inl rfl), .inr (.inr rfl)]⟩
/-- and none in a later round. -/
theorem duty_later (g : GSem nD τ sig) : ∀ r, 1 ≤ r → (plan (F := F) m ρ).duties g r = ∅ :=
  fun r hr => by dsimp only [plan]; exact if_neg fun h => by omega

theorem units_bar : (plan (F := F) m ρ).amount (barCell c) 0 () = 1 := by dsimp only [plan]; exact if_pos rfl
theorem units_snd : (plan (F := F) m ρ).amount (sndCell c) 0 () = N := by dsimp only [plan]; exact if_neg snd_ne_bar
theorem units_rcv : (plan (F := F) m ρ).amount (rcvCell c) 0 () = N := by dsimp only [plan]; exact if_neg rcv_ne_bar

theorem pay_bar : (plan (F := F) m ρ).payload (barCell c) 0 () = barPay c := by
  dsimp only [plan]; unfold payOf; rw [if_pos rfl]
theorem pay_rcv : (plan (F := F) m ρ).payload (rcvCell c) 0 () = landPts c (topAt m ρ (mate c)) := by
  dsimp only [plan]; unfold payOf; rw [if_neg rcv_ne_bar, if_pos rfl]
theorem pay_snd : (plan (F := F) m ρ).payload (sndCell c) 0 () = minePts c (topAt m ρ c) := by
  dsimp only [plan]; unfold payOf; rw [if_neg snd_ne_bar, if_neg snd_ne_rcv, if_pos rfl]

/-- A cell's round needs its one duty's units, -/
theorem need (k : Fin 3) : (plan (F := F) m ρ).expect (exCell (c, k)) 0 = (plan (F := F) m ρ).amount (exCell (c, k)) 0 () := by
  unfold Schedule.expect Schedule.amountOf; rw [duty, Finset.sum_singleton]
/-- and brings its one duty's payload. -/
theorem gain (k : Fin 3) : bigSep ((plan (F := F) m ρ).duties (exCell (c, k)) 0 \ ∅) (fun d => (plan (F := F) m ρ).payload (exCell (c, k)) 0 d)
    = (plan (F := F) m ρ).payload (exCell (c, k)) 0 () := by
  rw [Finset.sdiff_empty, duty, bigSep_singleton]

end Plan

/-! ## What a device owes at launch, and the levels -/

/-- Device `c` owes its mate's receive cell one block's credit and its mate's barrier one unit. -/
def owe0 (c : Dev nD) : CellTallies nD τ sig Unit := tallyAt (rcvCell (mate c)) () N + tallyAt (barCell (mate c)) () 1

def names (g : GSem nD τ sig) : Finset Unit := if g.1.2 = .tc then {()} else ∅
def level (g : GSem nD τ sig) (_ : Unit) : ℕ := if g.2 = .reg barS then 1 else if g.2 = .dma rcvS.sem then 2 else 0

theorem names_of_ne (g : GSem nD τ sig) (h : g.1.2 ≠ .tc) : names g = ∅ := if_neg h
theorem names_tc (c : Dev nD) (sm : SemLoc sig) : names ((c : Thread nD τ), sm) = {()} := if_pos rfl
theorem mem_names (c : Dev nD) (sm : SemLoc sig) (u : Unit) : u ∈ names ((c : Thread nD τ), sm) := by
  rw [names_tc]; exact Finset.mem_singleton_self _

theorem level_bar (c : Dev nD) (u : Unit) : level (barCell c) u = 1 := if_pos rfl
theorem level_rcv (c : Dev nD) (u : Unit) : level (rcvCell c) u = 2 := (if_neg rcv_ne_bar).trans (if_pos rfl)

/-- A single tally is positive only at its cell. -/
theorem cell_of_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owe0_pos {c : Dev nD} {g : GSem nD τ sig} {u : Unit} (h : 0 < owe0 c g u) : g = rcvCell (mate c) ∨ g = barCell (mate c) := by
  unfold owe0 at h
  rw [Pi.add_apply, Finsupp.add_apply] at h
  by_cases h1 : 0 < (tallyAt (rcvCell (mate c)) () N : CellTallies nD τ sig Unit) g u
  · exact .inl (cell_of_pos h1)
  · exact .inr (cell_of_pos (n := 1) (u := u) (by omega))

omit [FloatOps F] in
/-- The staging copies' waits are below everything a device ever owes. -/
theorem wait_stage (c : Dev nD) (q : DmaSem sig) (hq : SemLoc.dma q ≠ .dma rcvS.sem) (O : CellTallies nD τ sig Unit) (hO : O = owe0 c ∨ O = 0) :
    (levAts names level : sProp 𝕄) ⊢ MayWait (c : Thread nD τ) (.dma q) () O := by
  rcases hO with rfl | rfl
  · refine MayOwe.of_cut (L := names) (lev := level) 0 (fun p hp => by rw [Finset.mem_singleton.mp hp]; exact mem_names _ _ _)
      (fun g u hg => by rcases owe0_pos hg with rfl | rfl <;> exact mem_names _ _ _)
      (fun p hp => by rw [Finset.mem_singleton.mp hp]; dsimp only [level]; rw [if_neg (fun h => by cases h), if_neg hq])
      (fun g u hg => by
        rcases owe0_pos hg with rfl | rfl
        · rw [level_rcv]; decide
        · rw [level_bar]; decide)
  · rw [MayWait_zero]; iintro -; iempintro

omit [FloatOps F] in
/-- At its barrier a device owes only its mate's receive cell, a level above. -/
theorem wait_bar (c : Dev nD) :
    (levAts names level : sProp 𝕄) ⊢ MayWait (c : Thread nD τ) (.reg barS) () (tallyAt (rcvCell (mate c)) () N) :=
  MayOwe.of_cut (L := names) (lev := level) 1 (fun p hp => by rw [Finset.mem_singleton.mp hp]; exact mem_names _ _ _)
    (fun g u hg => by rw [cell_of_pos hg]; exact mem_names _ _ _)
    (fun p hp => by rw [Finset.mem_singleton.mp hp]; exact (level_bar c ()).le)
    (fun g u hg => by rw [cell_of_pos hg, level_rcv]; decide)

/-! ## The state a device's body starts from and ends in -/

/-- The invariants device `c` opens: its own three cells', its mate's barrier's and its mate's receive cell's. -/
def invs (K : Dev nD × Fin 3 → ℕ) (c : Dev nD) : sProp 𝕄 :=
  iprop(cellInv EX (plan m ρ) (K (c, 0)) (barCell c) ∗ cellInv EX (plan m ρ) (K (c, 1)) (sndCell c) ∗ cellInv EX (plan m ρ) (K (c, 2)) (rcvCell c)
    ∗ cellInv EX (plan m ρ) (K (mate c, 0)) (barCell (mate c)) ∗ cellInv EX (plan m ρ) (K (mate c, 2)) (rcvCell (mate c)))

instance invs_persistent (K : Dev nD × Fin 3 → ℕ) (c : Dev nD) : BI.Persistent (invs m ρ K c) := by unfold invs; infer_instance

/-- The exchange's state at device `c`: the invariants, its place in round 0 of its cells, the rounds reached of the cells
    it pays and of its own receive cell, and the three duties it pays. -/
def ghost (K : Dev nD × Fin 3 → ℕ) (c : Dev nD) : sProp 𝕄 :=
  iprop(invs m ρ K c
    ∗ atPos EX (barCell c) 0 ∅ 0 ∗ atPos EX (sndCell c) 0 ∅ 0 ∗ atPos EX (rcvCell c) 0 ∅ 0
    ∗ reached EX (barCell (mate c)) 0 ∗ reached EX (sndCell c) 0 ∗ reached EX (rcvCell c) 0
    ∗ dutyTok EX (barCell (mate c)) 0 () ∗ dutyTok EX (rcvCell (mate c)) 0 () ∗ dutyTok EX (sndCell c) 0 ())

/-- What is handed to device `c`'s region at launch: that at some names, the credit of its barrier and of its receive cell, the levels. -/
def begin0 (c : Dev nD) : sProp 𝕄 :=
  iprop((∃ K, ghost m ρ K c) ∗ cred (tallyAt (barCell c) () 1) ∗ cred (tallyAt (rcvCell c) () N) ∗ levAts names level)

/-- The three buffers of the kernel's own, at any contents. -/
def scratches (c : Dev nD) : sProp 𝕄 :=
  iprop((∃ f : Buf (Elt F) ((c : Thread nD τ).loc cc0_scratch0), ((c : Thread nD τ).loc cc0_scratch0) ↦{fullShare} f)
    ∗ (∃ f, minePts c f) ∗ (∃ f, landPts c f))

/-- Before the body; -/
def before0 (c : Dev nD) : sProp 𝕄 := iprop(begin0 m ρ c ∗ scratches c)
/-- and after it: the buffers back, all three counters at zero. -/
def after0 (c : Dev nD) : sProp 𝕄 :=
  iprop(scratches (F := F) c ∗ semVal (sndCell c) 0 ∗ semVal (rcvCell c) 0 ∗ semVal (barCell c) 0)

def dats (_ : Fin 1) (c : Dev nD) : Dat τ (Elt F) Unit ℕ AllU ℕ cfg0 c where
  A w := (start0 m ρ).mem ((cfg0.win w).arr.view.loc (c : Thread nD τ))
  after w _ := match w with
    | ⟨0, _⟩ => xBlock m ρ c
    | ⟨1, _⟩ => outAt m ρ c
  Φ t := match t with
    | ⟨0, _⟩ => before0 m ρ c
    | ⟨_ + 1, _⟩ => after0 c
  q _ := fullShare
  owed t := match t with
    | ⟨0, _⟩ => owe0 c
    | ⟨_ + 1, _⟩ => 0

abbrev 𝒱₀ : Variants := Variants.none

end Cert.TopK

end
-- ==== Proof.Effects.lean ====
/-
  The loads and stores of the body, as rules on what the buffers hold.

  The body reads and rewrites the whole work buffer, and writes the buffers of maxima and of the result one column at a
  time (each write after a read of the column that nothing uses). The rules here say what the buffers hold after each.
-/
module

public import proofs.«01_k».proof.Proof.Protocol

@[expose] public section

noncomputable section

namespace Cert.TopK

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ AllU ℕ

/-! ## What a column write leaves -/

/-- An array that agrees with `col` on column `k` and with `f` elsewhere is `f` with that column replaced. -/
theorem eq_setCol {α : Type} (k : Fin 16) (col : S512x1.Idx → α) (f g : S512x16.Idx → α)
    (hin : ∀ p : S512x1.Idx, g (ix2 (p 0 : Fin 512) k) = col p) (hout : ∀ i : S512x16.Idx, (i 1).val ≠ k.val → g i = f i) : g = setCol k.val col f := by
  funext i
  unfold setCol
  split
  · next h =>
      rw [← hin (ix2 (i 0) (0 : Fin 1))]
      exact congrArg g ((eq_ix2 i).trans (congrArg (ix2 (i 0)) (Fin.ext h)))
  · next h => exact hout i h

/-- The place of a column's entry in the array. -/
theorem col_emb (k : Fin 16) (inb) (p : S512x1.Idx) :
    (Rect.unit (s := S512x16) ![0, k.val] S512x1.size inb).emb p = (ix2 (p 0 : Fin 512) k : S512x16.Idx) := by
  funext a
  apply Fin.ext
  have h0 : (p 1).val = 0 := Nat.lt_one_iff.mp (p 1).isLt
  fin_cases a
  · show 0 + 1 * (p 0).val = (p 0).val; omega
  · show k.val + 1 * (p 1).val = k.val; omega

/-- Writing a column of the buffer of maxima. -/
theorem write_mine (k : Fin 16) (inb) (f : FVec F S512x16 .bf16) (w : FVec F S512x1 .bf16) :
    ((mineM : Memref sig .tc .vmem S512x16 .bf16).access (Rect.unit (s := S512x16) ![0, k.val] S512x1.size inb) : View sig .tc _ _ _).write (Elt F) f w Finset.univ
      = setCol k.val w f := by
  refine eq_setCol k w f _ (fun p => ?_) (fun i hi => View.write_of_not_mem _ _ _ fun h => ?_)
  · rw [← col_emb k inb p]
    exact View.write_emb_of_mem (Val := Elt F) (v := (mineM : Memref sig .tc .vmem S512x16 .bf16).access (Rect.unit (s := S512x16) ![0, k.val] S512x1.size inb)) f w (Finset.mem_univ p)
  · obtain ⟨p, -, rfl⟩ := Finset.mem_map.mp h
    exact hi (congrArg (fun j : S512x16.Idx => (j 1).val) (col_emb k inb p))

/-- Writing a column of the result's buffer. -/
theorem write_out (k : Fin 16) (inb) (f : FVec F S512x16 .f32) (w : FVec F S512x1 .f32) :
    ((outM : Memref sig .tc .vmem S512x16 .f32).access (Rect.unit (s := S512x16) ![0, k.val] S512x1.size inb) : View sig .tc _ _ _).write (Elt F) f w Finset.univ
      = setCol k.val w f := by
  refine eq_setCol k w f _ (fun p => ?_) (fun i hi => View.write_of_not_mem _ _ _ fun h => ?_)
  · rw [← col_emb k inb p]
    exact View.write_emb_of_mem (Val := Elt F) (v := (outM : Memref sig .tc .vmem S512x16 .f32).access (Rect.unit (s := S512x16) ![0, k.val] S512x1.size inb)) f w (Finset.mem_univ p)
  · obtain ⟨p, -, rfl⟩ := Finset.mem_map.mp h
    exact hi (congrArg (fun j : S512x16.Idx => (j 1).val) (col_emb k inb p))

theorem zeros2 : (![0, 0] : Fin 2 → ℕ) = fun _ => 0 := funext fun a => by fin_cases a <;> rfl

/-- Writing the whole work buffer. -/
theorem write_work (inb) (f w : FVec F S512x4096 .bf16) :
    ((workM : Memref sig .tc .vmem S512x4096 .bf16).access (Rect.unit (s := S512x4096) ![0, 0] S512x4096.size inb) : View sig .tc _ _ _).write (Elt F) f w Finset.univ
      = w :=
  Memref.write_access_unit_zero_univ (Elt F) cc0_scratch0 zeros2 inb f w

/-! ## The rules -/

/-- A program's weakest precondition on device `c`. -/
abbrev runs (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-- A whole buffer of device `c`, by the memref that names it. -/
abbrev pts (c : Dev nD) {sh : Shape} {e : EltTy} (b : Memref sig .tc .vmem sh e) (f : Buf (Elt F) (b.view.loc (c : Thread nD τ))) : sProp 𝕄 :=
  b.view.loc (c : Thread nD τ) ↦{fullShare} f

theorem read_x (f : FVec F S512x4096 .bf16) {inb} :
    (xM : Memref sig .tc .vmem S512x4096 .bf16).view.readAt (Elt F) (Rect.unit (s := S512x4096) ![0, 0] S512x4096.size inb).toLoadRect f = f :=
  Memref.readAt_unit_zero (Elt F) cc0_stg0_0 zeros2 _ f
theorem read_work (f : FVec F S512x4096 .bf16) {inb} :
    (workM : Memref sig .tc .vmem S512x4096 .bf16).view.readAt (Elt F) (Rect.unit (s := S512x4096) ![0, 0] S512x4096.size inb).toLoadRect f = f :=
  Memref.readAt_unit_zero (Elt F) cc0_scratch0 zeros2 _ f
theorem read_mine (f : FVec F S512x16 .bf16) {inb} :
    (mineM : Memref sig .tc .vmem S512x16 .bf16).view.readAt (Elt F) (Rect.unit (s := S512x16) ![0, 0] S512x16.size inb).toLoadRect f = f :=
  Memref.readAt_unit_zero (Elt F) cc0_scratch1 zeros2 _ f
theorem read_land (f : FVec F S512x16 .bf16) {inb} :
    (landM : Memref sig .tc .vmem S512x16 .bf16).view.readAt (Elt F) (Rect.unit (s := S512x16) ![0, 0] S512x16.size inb).toLoadRect f = f :=
  Memref.readAt_unit_zero (Elt F) cc0_scratch2 zeros2 _ f

variable (c : Dev nD)

/-- A load, from what the buffer holds there. -/
theorem load_is {α : Type} {Q : α → sProp 𝕄} {sh : Shape} {e : EltTy} (b : Memref sig .tc .vmem sh e) {r : LoadRect sh} {f : Buf (Elt F) (b.view.loc (c : Thread nD τ))}
    {v : r.shape.Idx → Elt F e} (hv : b.view.readAt (Elt F) r f = v) {hl : b.view.LoadsAt r}
    {k : (r.shape.Idx → Elt F e) → Prog (TpuEff nD τ sig (Elt F) Λ₀ .tc) α} :
    pts c b f ⊢ iprop((pts c b f -∗ runs c (k v) Q) -∗ runs c (.op (.load b r hl) k) Q) := by
  subst hv
  exact wp_load 𝒱₀ (c : Thread nD τ) none Set.univ (m := b) (Finset.subset_univ _)

/-- The work buffer, read for nothing and then replaced; -/
theorem put_work {α : Type} {Q : α → sProp 𝕄} (f w w' : FVec F S512x4096 .bf16) (hw : w = w') {inb} {hl} {hx} {hm} {k : PUnit → Prog (TpuEff nD τ sig (Elt F) Λ₀ .tc) α} :
    pts c workM f
      ⊢ iprop((pts c workM w' -∗ runs c (k ⟨⟩) Q)
        -∗ runs c (.op (.load workM (Rect.unit (s := S512x4096) ![0, 0] S512x4096.size inb).toLoadRect hl) fun _ =>
            .op (.store workM (Rect.unit (s := S512x4096) ![0, 0] S512x4096.size inb) w Finset.univ hx hm) k) Q) := by
  subst hw
  iintro H Hk
  iapply (load_is c workM rfl) $$ H; iintro H
  iapply (wp_store 𝒱₀ (c : Thread nD τ) none Set.univ (m := workM) (r := Rect.unit (s := S512x4096) ![0, 0] S512x4096.size inb) (Mk := Finset.univ) (Finset.subset_univ _)) $$ H
  rw [write_work inb]
  iexact Hk

/-- by the next of its contents, where it held those of `j` rounds. -/
theorem put_next {α : Type} {Q : α → sProp 𝕄} {x : FVec F S512x4096 .bf16} {j : ℕ} {w : FVec F S512x4096 .bf16} (hw : w = workAt x (j + 1)) {inb} {hl} {hx} {hm}
    {k : PUnit → Prog (TpuEff nD τ sig (Elt F) Λ₀ .tc) α} :
    pts c workM (workAt x j)
      ⊢ iprop((pts c workM (workAt x (j + 1)) -∗ runs c (k ⟨⟩) Q)
        -∗ runs c (.op (.load workM (Rect.unit (s := S512x4096) ![0, 0] S512x4096.size inb).toLoadRect hl) fun _ =>
            .op (.store workM (Rect.unit (s := S512x4096) ![0, 0] S512x4096.size inb) w Finset.univ hx hm) k) Q) :=
  put_work c _ w _ hw

/-- The next column of the device's maxima, read for nothing and then written. -/
theorem put_mine {α : Type} {Q : α → sProp 𝕄} {x : FVec F S512x4096 .bf16} {g : FVec F S512x16 .bf16} {j : ℕ} {w : FVec F S512x1 .bf16} (hw : w = topCol x j)
    {inb : ∀ a, ![0, j] a + S512x1.size a ≤ S512x16.size a} {hl} {hx} {hm} {k : PUnit → Prog (TpuEff nD τ sig (Elt F) Λ₀ .tc) α} :
    pts c mineM (fill (topCol x) g j)
      ⊢ iprop((pts c mineM (fill (topCol x) g (j + 1)) -∗ runs c (k ⟨⟩) Q)
        -∗ runs c (.op (.load mineM (Rect.unit (s := S512x16) ![0, j] S512x1.size inb).toLoadRect hl) fun _ =>
            .op (.store mineM (Rect.unit (s := S512x16) ![0, j] S512x1.size inb) w Finset.univ hx hm) k) Q) := by
  subst hw
  iintro H Hk
  iapply (load_is c mineM rfl) $$ H; iintro H
  iapply (wp_store 𝒱₀ (c : Thread nD τ) none Set.univ (m := mineM) (r := Rect.unit (s := S512x16) ![0, j] S512x1.size inb) (Mk := Finset.univ) (Finset.subset_univ _)) $$ H
  rw [write_mine ⟨j, inb 1⟩ inb]
  iexact Hk

/-- The next column of the result, read for nothing and then written. -/
theorem put_out {α : Type} {Q : α → sProp 𝕄} {a b : FVec F S512x16 .bf16} {g : FVec F S512x16 .f32} {j : ℕ} {w : FVec F S512x1 .f32} (hw : w = outCol a b j)
    {inb : ∀ a, ![0, j] a + S512x1.size a ≤ S512x16.size a} {hl} {hx} {hm} {k : PUnit → Prog (TpuEff nD τ sig (Elt F) Λ₀ .tc) α} :
    pts c outM (fill (outCol a b) g j)
      ⊢ iprop((pts c outM (fill (outCol a b) g (j + 1)) -∗ runs c (k ⟨⟩) Q)
        -∗ runs c (.op (.load outM (Rect.unit (s := S512x16) ![0, j] S512x1.size inb).toLoadRect hl) fun _ =>
            .op (.store outM (Rect.unit (s := S512x16) ![0, j] S512x1.size inb) w Finset.univ hx hm) k) Q) := by
  subst hw
  iintro H Hk
  iapply (load_is c outM rfl) $$ H; iintro H
  iapply (wp_store 𝒱₀ (c : Thread nD τ) none Set.univ (m := outM) (r := Rect.unit (s := S512x16) ![0, j] S512x1.size inb) (Mk := Finset.univ) (Finset.subset_univ _)) $$ H
  rw [write_out ⟨j, inb 1⟩ inb]
  iexact Hk

end Cert.TopK

end
-- ==== Proof.Body.lean ====
/-
  The body, run once from the state the launch hands it to the state it leaves, for any float values `F`.

  The signal hands the mate this device's landing buffer; the wait brings the mate's. Sixteen rounds on the device's block
  fill the buffer of maxima, which the copy moves to the mate. After both waits the two buffers hold the device's and the
  mate's maxima, and sixteen rounds on their 32 candidates fill the result.
-/
module

public import proofs.«01_k».proof.Proof.Effects
public import proofs.«01_k».proof.Proof.Gen.KernelIdeal.Points

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ) (ρ : Dev nD → PrngReg)
variable (K : Dev nD × Fin 3 → ℕ)

/-- Sending the maxima: the copy to `n`, the mate, takes both buffers and the two duties it pays. -/
theorem send_mine (c n : Dev nD) (hn : n = mate c)
    {hsc : (landM : Memref sig (Dev.tc n : Thread nD τ).2.kind .vmem S512x16 .bf16).view.ref.isScScratch = false}
    {hsrc : (mineM : Memref sig .tc .vmem S512x16 .bf16).view.WordExact} {hdst : (landM : Memref sig .tc .vmem S512x16 .bf16).view.WordExact}
    {hsem : DmaTarget.Typed .vmem (.dma rcvS.sem) (.remote (Dev.tc n : Thread nD τ) (landM : Memref sig .tc .vmem S512x16 .bf16) (.dma sndS.sem) hsc)}
    {α : Type} {Q : α → sProp 𝕄} {k : PUnit → Prog (TpuEff nD τ sig (Elt F) Λ₀ .tc) α}
    (fn : FVec F S512x16 .bf16) (W : Waits sig Unit) :
    iprop(cellInv EX (plan m ρ) (K (c, 1)) (sndCell c) ∗ cellInv EX (plan m ρ) (K (mate c, 2)) (rcvCell (mate c))
        ∗ minePts c (topAt m ρ c) ∗ landPts (mate c) fn
        ∗ owes (c : Thread nD τ) (tallyAt (rcvCell (mate c)) () N) W
        ∗ dutyTok EX (sndCell c) 0 () ∗ reached EX (sndCell c) 0
        ∗ dutyTok EX (rcvCell (mate c)) 0 () ∗ reached EX (rcvCell (mate c)) 0)
      ⊢ iprop(((cred (tallyAt (sndCell c) () N) ∗ owes (c : Thread nD τ) 0 W) -∗ runs c (k ⟨⟩) Q)
          -∗ runs c (.op (.enqueueDma mineM (.remote (Dev.tc n : Thread nD τ) landM (.dma sndS.sem) hsc) (.dma rcvS.sem) hsrc hdst hsem) k) Q) := by
  subst hn
  unfold minePts landPts
  have hpay : (landM.view.loc (mate c : Thread nD τ) ↦[landM.view.set]{fullShare} (landM.view.write (Elt F) fn (mineM.view.read (Elt F) (topAt m ρ c)) Finset.univ))
      ⊢ (plan (F := F) m ρ).payload (rcvCell (mate c)) 0 () := by
    rw [pay_rcv]; unfold landPts; rw [landing, mate_mate]
  have hpay1 : (mineM.view.loc (c : Thread nD τ) ↦[mineM.view.set]{fullShare} (topAt m ρ c))
      ⊢ (plan (F := F) m ρ).payload (sndCell c) 0 () := by
    rw [pay_snd]; exact BI.Entails.refl _
  have hN : landM.view.amount (.dma rcvS.sem) = N := rfl
  have hr : τ.routes (c : Thread nD τ) (mate c : Thread nD τ) = true := by routes
  have hd1 : () ∈ (plan (F := F) m ρ).duties (sndCell c) 0 := by rw [duty m ρ c 1]; exact Finset.mem_singleton_self _
  have hd2 : () ∈ (plan (F := F) m ρ).duties (rcvCell (mate c)) 0 := by rw [duty m ρ (mate c) 2]; exact Finset.mem_singleton_self _
  have hu1 := units_snd m ρ c
  have hu2 := units_rcv m ρ (mate c)
  generalize topAt m ρ c = t at hpay hpay1 ⊢
  generalize plan m ρ = p at *
  exact Rounds.wp_send_pointsTo (c' := (mate c : Thread nD τ)) (src := mineM) (dst := landM) 𝒱₀ EX p (c : Thread nD τ) none (κ₁ := K (c, 1)) (κ₂ := K (mate c, 2))
    (r₁ := 0) (r₂ := 0) (d₁ := ()) (d₂ := ()) (fs := t) (fd := fn) hd1 hd2 () () N hN hu1 hu2 0 (by rw [zero_add]) (W := W) hpay1 hpay hr

/-- A staging buffer of device `c` at contents equal to `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, at given names of the invariants; -/
def bodyPre (c : Dev nD) : sProp 𝕄 :=
  iprop((ghost m ρ K c ∗ cred (tallyAt (barCell c) () 1) ∗ cred (tallyAt (rcvCell c) () N) ∗ levAts names level ∗ scratches c)
    ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

/-- and what it leaves. -/
def bodyPost (c : Dev nD) : sProp 𝕄 :=
  iprop(after0 c ∗ (dats m ρ 0 c).owesAt () t0_0.succ ∗ staged c cc0_stg0_0 (xBlock m ρ c) ∗ staged c cc0_stg1_0 (outAt m ρ c))

set_option maxHeartbeats 4000000 in
set_option maxRecDepth 20000 in
/-- The body runs from the first to the second, one rule per effect in program order. -/
theorem body_runs (c : Dev nD) (Kt : PUnit → sProp 𝕄) :
    iprop(bodyPre m ρ K c ∗ (bodyPost m ρ c -∗ Kt ⟨⟩))
      ⊢ runs c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  rw [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  unfold bodyPre ghost invs scratches
  iintro ⟨⟨⟨⟨⟨#Ibar, #Isnd, #Ircv, #IbarM, #IrcvM⟩, AtB, AtS, AtV, #RbarM, #Rsnd, #Rrcv, TbarM, TrcvM, Tsnd⟩, CrB, CrV, #Lev,
    ⟨%f0, Hwork⟩, ⟨%f1, Hmine⟩, ⟨%f2, Hland⟩⟩, Ho, ⟨%d0, %g0, %hg0, Hx⟩, ⟨%d1, %g1, %hg1, Hout⟩⟩, Hk⟩
  have hx : g0 = xBlock m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = owe0 c from rfl]
  rw [dev1_mate c]
  -- the signal to the mate's barrier, with the landing buffer
  iapply (Rounds.wp_signal 𝒱₀ EX (plan m ρ) (c : Thread nD τ) none (dst := (mate c : Thread nD τ)) (κ := K (mate c, 0))
      (d := ()) (by rw [duty m ρ (mate c) 0]; exact Finset.mem_singleton_self _) ((units_bar m ρ (mate c)).trans (by decide)) ()
      (tallyAt (rcvCell (mate c)) () N) rfl) $$ [HO TbarM Hland]
  · isplitr; · iexact IbarM
    isplitl [HO]; · iexact HO
    isplitl [TbarM]; · iexact TbarM
    isplitl [Hland]
    · rw [pay_bar]; unfold barPay; rw [mate_mate]
      isplitl [Hland]; · iexists f2; iexact Hland
      iexact Rrcv
    · iexact RbarM
  iintro HO
  -- the wait on its own barrier, which brings the mate's landing buffer
  iapply (Rounds.wp_wait_rest_token 𝒱₀ EX (plan m ρ) (c : Thread nD τ) none (κ := K (c, 0))
      (wpE_semWait_eq 𝒱₀ (c : Thread nD τ) none Set.univ) (Set.mem_univ _) () (O := tallyAt (rcvCell (mate c)) () N) (W := W) (R := 0) (m := 0) (T := ∅)
      (by rw [need m ρ c 0, units_bar]; decide)) $$ [CrB HO AtB]
  · isplitr; · iexact Ibar
    isplitl [CrB]; · iexact CrB
    isplitl [HO]; · iexact HO
    isplitr; · iapply (wait_bar c); iexact Lev
    iexact AtB
  iintro ⟨HO, AtB, -, Hpay⟩
  ihave Hp := (Entails.of_eq ((gain m ρ c 0).trans (pay_bar m ρ c))) $$ Hpay
  unfold barPay
  icases Hp with ⟨⟨%fn, HlandM⟩, #RrcvM⟩
  ihave Hmine := (Entails.of_eq ((minePts_eq c f1).trans (show _ = pts c mineM (fill (topCol (xBlock m ρ c)) f1 0) from rfl))) $$ Hmine
  -- the block is copied into the work buffer
  iapply (load_is c xM (read_x _)) $$ Hx; iintro Hx
  iapply (put_work c f0 _ (workAt (xBlock m ρ c) 0) rfl) $$ Hwork; iintro Hwork
  -- sixteen rounds on the block
  rw [k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton]
  unfold k0_part2_skel k0_part3_skel k0_part4_skel k0_part5_skel k0_part6_skel k0_part7_skel k0_part8_skel k0_part9_skel k0_part10_skel
  simp only [Prog.lift, Prog.bind_op, Prog.bind_ret, Prog.pure_eq_ret]
  iterate 16
    iapply (load_is c workM (read_work _)) $$ Hwork; iintro Hwork
    iapply (put_mine c rfl) $$ Hmine; iintro Hmine
    iapply (put_next c rfl) $$ Hwork; iintro Hwork
  ihave Hmine := (Entails.of_eq (show pts c mineM (fill (topCol (xBlock m ρ c)) f1 16) = minePts c (topAt m ρ c) by rw [fill_all, minePts_eq]; rfl)) $$ Hmine
  -- the copy to the mate
  iapply (send_mine m ρ K c _ (dev2_mate c) fn (insert (SemLoc.reg barS, ()) W)) $$ [Hmine HlandM HO Tsnd TrcvM]
  · isplitr; · iexact Isnd
    isplitr; · iexact IrcvM
    isplitl [Hmine]; · iexact Hmine
    isplitl [HlandM]; · iexact HlandM
    isplitl [HO]; · iexact HO
    isplitl [Tsnd]; · iexact Tsnd
    isplitr; · iexact Rsnd
    isplitl [TrcvM]; · iexact TrcvM
    iexact RrcvM
  iintro ⟨CrS, HO⟩
  -- the wait for its own copy to have left, which brings its maxima back
  iapply (Rounds.wp_wait_rest_token 𝒱₀ EX (plan m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, need m ρ c 1, units_snd])) $$ [CrS HO AtS]
  · isplitr; · iexact Isnd
    isplitl [CrS]; · iexact CrS
    isplitl [HO]; · iexact HO
    isplitr; · rw [MayWait_zero]; iempintro
    iexact AtS
  iintro ⟨HO, AtS, -, Hpay⟩
  ihave Hmine := (Entails.of_eq ((gain m ρ c 1).trans ((pay_snd m ρ c).trans (minePts_eq c _)))) $$ Hpay
  -- the wait for the mate's copy, which brings the landing buffer with the mate's maxima
  iapply (Rounds.wp_wait_rest_token 𝒱₀ EX (plan m ρ) (c : Thread nD τ) none (κ := K (c, 2))
      (wpE_waitDma2_eq 𝒱₀ (c : Thread nD τ) none Set.univ) (Set.mem_univ _) () (O := 0)
      (W := insert (SemLoc.dma sndS.sem, ()) (insert (SemLoc.reg barS, ()) W)) (R := 0) (m := 0) (T := ∅)
      (by rw [Nat.zero_add, need m ρ c 2, units_rcv])) $$ [CrV HO AtV]
  · isplitr; · iexact Ircv
    isplitl [CrV]; · iexact CrV
    isplitl [HO]; · iexact HO
    isplitr; · rw [MayWait_zero]; iempintro
    iexact AtV
  iintro ⟨HO, AtV, -, Hpay⟩
  ihave Hland := (Entails.of_eq ((gain m ρ c 2).trans ((pay_rcv m ρ c).trans (landPts_eq c _)))) $$ Hpay
  -- the three cells close: their counters, at zero, are the device's again
  imod (Rounds.cell_close EX (plan m ρ) (Set.mem_univ (K (c, 1))) (fun h => h) (R := 0 + 1) (duty_later m ρ (sndCell c))) $$ [AtS] with ZS
  · isplitr; · iexact Isnd
    iexact AtS
  imod (Rounds.cell_close EX (plan m ρ) (Set.mem_univ (K (c, 2))) (fun h => h) (R := 0 + 1) (duty_later m ρ (rcvCell c))) $$ [AtV] with ZV
  · isplitr; · iexact Ircv
    iexact AtV
  imod (Rounds.cell_close EX (plan m ρ) (Set.mem_univ (K (c, 0))) (fun h => h) (R := 0 + 1) (duty_later m ρ (barCell c))) $$ [AtB] with ZB
  · isplitr; · iexact Ibar
    iexact AtB
  -- sixteen rounds on the candidates
  rw [k0_part11_eq_skeleton, k0_part12_eq_skeleton, k0_part13_eq_skeleton, k0_part14_eq_skeleton, k0_part15_eq_skeleton]
  unfold k0_part11_skel k0_part12_skel k0_part13_skel k0_part14_skel k0_part15_skel
  simp only [Prog.lift, Prog.bind_op, Prog.bind_ret, Prog.pure_eq_ret]
  iapply (load_is c mineM (read_mine _)) $$ Hmine; iintro Hmine
  iapply (load_is c landM (read_land _)) $$ Hland; iintro Hland
  ihave Hout := (Entails.of_eq (show (((c : Thread nD τ).loc cc0_stg1_0) ↦{fullShare} g1 : sProp 𝕄) = pts c outM (fill (outCol (topAt m ρ c) (topAt m ρ (mate c))) g1 0) from rfl)) $$ Hout
  generalize hA : topAt m ρ c = A
  generalize hB : topAt m ρ (mate c) = B
  iterate 16
    iapply (put_out c rfl) $$ Hout; iintro Hout
  subst hA hB
  unfold runs; rw [wp_ret]; imodintro
  iapply Hk
  unfold bodyPost after0 scratches Dat.owesAt Pipeline.owesWithin
  rw [show (dats m ρ 0 c).owed t0_0.succ = 0 from rfl]
  isplitl [Hwork Hmine Hland ZS ZV ZB]
  · isplitl [Hwork Hmine Hland]
    · isplitl [Hwork]; · iexists _; iexact Hwork
      isplitl [Hmine]
      · iexists (topAt m ρ c); rw [minePts_eq]; iexact Hmine
      · iexists (topAt m ρ (mate c)); rw [landPts_eq]; iexact Hland
    isplitl [ZS]; · iexact ZS
    isplitl [ZV] <;> iassumption
  isplitl [HO]
  · iexists (insert (SemLoc.dma rcvS.sem, ()) (insert (SemLoc.dma sndS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; exact fill_all _ g1)
  iexact Hout

omit [FloatOps F] in
theorem owns_staged (c : Dev nD) (b : Ref sig .tc) (X : b.ty.Contents (Elt F)) :
    (owns (Ix := Unit) (Name := ℕ) (U := AllU) (Lvl := ℕ) (c : Thread nD τ) (Memref.whole b) fullShare X : sProp 𝕄) = staged c b X := by
  unfold owns; simp only [Memref.view_whole, View.read_whole, View.set_whole]

omit [FloatOps F] in
theorem both_windows (Φ : Fin cfg0.W → sProp 𝕄) : bigSep Finset.univ Φ = iprop(Φ (0 : Fin 2) ∗ Φ (1 : Fin 2)) := bigSep_W0 Φ

set_option maxRecDepth 65536 in
/-- What the launch's theorem asks of the body on device `c`. -/
theorem body_obligation (c : Dev nD) : BodyObligation (dats (F := F) m ρ 0 c) (defs₀ (F := F)) 𝒱₀ () Set.univ := fun t => by
  rw [fin_N0 t, both_windows, both_windows]
  simp only [owns_staged]
  show iprop(before0 m ρ c ∗ (dats m ρ 0 c).owesAt () t0_0.castSucc
      ∗ (∃ d, staged c cc0_stg0_0 ((dats m ρ 0 c).before (0 : Fin 2) t0_0 d)) ∗ (∃ d, staged c cc0_stg1_0 ((dats m ρ 0 c).before (1 : Fin 2) t0_0 d)))
    ⊢ runs c (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4) (fun _ => bodyPost m ρ c)
  unfold before0 begin0
  iintro ⟨⟨⟨⟨%K, Hg⟩, H1, H2, H3⟩, Hscr⟩, Ho, Hx, Hout⟩
  iapply (body_runs m ρ K c fun _ => bodyPost m ρ c)
  unfold bodyPre
  isplitr []
  · isplitl [Hg H1 H2 H3 Hscr]
    · isplitl [Hg]; · iexact Hg
      isplitl [H1]; · iexact H1
      isplitl [H2]; · iexact H2
      isplitl [H3] <;> iassumption
    isplitl [Ho]; · iexact Ho
    isplitl [Hx] <;> iassumption
  · iintro H; iexact H

end Cert.TopK

end
-- ==== Proof.Launch.lean ====
/-
  The launch: the four devices' bodies run together.

  The launch's resources are dealt out (each device's places and rounds of its three cells, and the duties, which go to
  the device that pays them), every device's body obligation is discharged by `body_obligation`, and every run of the
  program ends with each device's arrays as the exchange leaves them and every counter at zero (`run_main`).
-/
module

public import proofs.«01_k».proof.Proof.Body
public import Idealize.ShloMosaic.Lib.Pipeline.CollectiveSegs

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ) (ρ : Dev nD → PrngReg)

/-! ## The cells and the duties, all devices together -/

theorem ownSem_facts : Pipeline.OwnSemFacts cfg0.spec ownSem := by decide

theorem exCell_inj : Function.Injective (exCell : Dev nD × Fin 3 → GSem nD τ sig) := by
  have hs : ∀ k k' : Fin 3, exSem k = exSem k' → k = k' := by decide
  rintro ⟨c, k⟩ ⟨c', k'⟩ h
  exact Prod.ext (congrArg (fun g : GSem nD τ sig => g.1.1) h) (hs k k' (congrArg (fun g : GSem nD τ sig => g.2) h))

/-- All cells of the exchange, -/
def allCells : Finset (GSem nD τ sig) := Finset.univ.map ⟨exCell, exCell_inj⟩
/-- and all duties: one of each cell. -/
def allDuties : Finset (GSem nD τ sig × ℕ × Unit) :=
  Finset.univ.map ⟨fun ck : Dev nD × Fin 3 => (exCell ck, 0, ()), fun _ _ h => exCell_inj (congrArg Prod.fst h)⟩

/-- The launch's element: the staging copies' cells and tokens, and the exchange's. -/
def launchU : AllU := (initOf (Pipeline.cells cfgs cellOf_inj) (Pipeline.launchToks cfgs cellOf_inj), initOf allCells allDuties)

/-- Device `c`'s share of the exchange before its cells' invariants exist: its cells' records, its places in them and
    the rounds reached, its cells' duties. -/
def dealt (c : Dev nD) : sProp 𝕄 :=
  iprop((bigSep Finset.univ fun k : Fin 3 => roundState EX (plan m ρ) (exCell (c, k)) 0)
    ∗ (bigSep Finset.univ fun k : Fin 3 => atPos EX (exCell (c, k)) 0 ∅ 0)
    ∗ (bigSep Finset.univ fun k : Fin 3 => reached EX (exCell (c, k)) 0)
    ∗ bigSep Finset.univ fun k : Fin 3 => dutyTok EX (exCell (c, k)) 0 ())

/-- Device `c`'s share once they exist. -/
def ready (c : Dev nD) : sProp 𝕄 := iprop(∃ K, ghost m ρ K c)

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

/-- A product over all cells, device by device. -/
theorem by_device (Φ : GSem nD τ sig → sProp 𝕄) :
    bigSep allCells Φ = bigSep Finset.univ fun c : Dev nD => bigSep Finset.univ fun k : Fin 3 => Φ (exCell (c, k)) := by
  unfold allCells; rw [bigSep_map, bigSep_univ_prod]; rfl

/-- The launch's element pays for every device's share. -/
theorem deal : BI.own (EX (initOf allCells allDuties)) ⊢ (|==> bigSep Finset.univ (dealt m ρ) : sProp 𝕄) := by
  have hT : bigSep allDuties (fun x => (dutyTok EX x.1 x.2.1 x.2.2 : sProp 𝕄))
      = bigSep Finset.univ fun c : Dev nD => bigSep Finset.univ fun k : Fin 3 => dutyTok EX (exCell (c, k)) 0 () := by
    unfold allDuties; rw [bigSep_map, bigSep_univ_prod]; rfl
  iintro HX
  imod (Rounds.fund EX (plan m ρ) allCells allDuties) $$ HX with ⟨H1, H2, H3, H4⟩
  imodintro
  ihave H1 := (Entails.of_eq (by_device fun g => roundState EX (plan m ρ) g 0)) $$ H1
  ihave H2 := (Entails.of_eq (by_device (F := F) fun g => reached EX g 0)) $$ H2
  ihave H3 := (Entails.of_eq (by_device (F := F) fun g => atPos EX g 0 ∅ 0)) $$ H3
  ihave H4 := (Entails.of_eq hT) $$ H4
  unfold dealt; simp only [bigSep_sep']
  isplitl [H1]; · iexact H1
  isplitl [H3]; · iexact H3
  isplitl [H2] <;> iassumption

/-! ## The semaphores at launch -/

omit [FloatOps F] in
/-- The kernel's own semaphores are send and receive, -/
theorem own_sems (c : Dev nD) : (Pipeline.ownSems0 (Ix := Unit) (Name := ℕ) (U := AllU) (Lvl := ℕ) (Val := Elt F) (τ := τ) ownSem c : sProp 𝕄)
    = iprop(semVal (sndCell c) 0 ∗ semVal (rcvCell c) 0) := by
  rw [Pipeline.ownSems0_eq_of_list c ownSem [0, 1] (by decide) (by decide)]; rfl
omit [FloatOps F] in
/-- and the barrier is the only one the runtime holds. -/
theorem runtime_sems (c : Dev nD) : (unscopedSems0 c : sProp 𝕄) = semVal (barCell c) 0 := by
  unfold unscopedSems0; rw [bigSep_eq_bigSepL_of_eq [SemLoc.reg barS] (by decide) (by decide)]; rfl

/-- Each of a device's three cells gets its invariant. -/
theorem open_cells (c : Dev nD) :
    iprop(Pipeline.ownSems0 (Ix := Unit) (Name := ℕ) (U := AllU) (Lvl := ℕ) (Val := Elt F) (τ := τ) ownSem c ∗ unscopedSems0 c ∗ dealt m ρ c)
      ⊢ |={Set.univ}=> iprop((bigSep Finset.univ fun k => iprop(∃ κ : ℕ, cellInv EX (plan m ρ) κ (exCell (c, k))))
          ∗ (bigSep Finset.univ fun k : Fin 3 => atPos EX (exCell (c, k)) 0 ∅ 0)
          ∗ (bigSep Finset.univ fun k : Fin 3 => reached EX (exCell (c, k)) 0)
          ∗ bigSep Finset.univ fun k : Fin 3 => dutyTok EX (exCell (c, k)) 0 ()) := by
  have hinv : iprop((bigSep Finset.univ fun k : Fin 3 => semVal (exCell (c, k)) 0) ∗ bigSep Finset.univ fun k : Fin 3 => roundState EX (plan m ρ) (exCell (c, k)) 0)
      ⊢ (|={Set.univ}=> bigSep Finset.univ fun k => iprop(∃ κ : ℕ, cellInv EX (plan m ρ) κ (exCell (c, k))) : sProp 𝕄) := by
    rw [← bigSep_sep']
    exact (bigSep_mono fun k _ => (Rounds.body_intro EX (plan m ρ) (exCell (c, k))).trans inv_alloc).trans (bigSep_fupd _ _)
  rw [own_sems, runtime_sems]
  unfold dealt
  iintro ⟨⟨HS, HV⟩, HB, Hst, Hrest⟩
  imod hinv $$ [HS HV HB Hst] with Hinv
  · isplitl [HS HV HB]
    · rw [three]
      isplitl [HB]; · iexact HB
      isplitl [HS] <;> iassumption
    iexact Hst
  imodintro
  isplitl [Hinv] <;> iassumption

/-! ## The duties go to the devices that pay them -/

/-- What all devices may use, as often as they like. -/
def shared (K : Dev nD × Fin 3 → ℕ) : sProp 𝕄 :=
  iprop((bigSep Finset.univ fun ck : Dev nD × Fin 3 => cellInv EX (plan m ρ) (K ck) (exCell ck))
    ∗ bigSep Finset.univ fun ck : Dev nD × Fin 3 => reached EX (exCell ck) 0)

instance shared_persistent (K : Dev nD × Fin 3 → ℕ) : BI.Persistent (shared m ρ K) := by unfold shared; infer_instance

theorem shared_inv (K : Dev nD × Fin 3 → ℕ) (ck : Dev nD × Fin 3) : shared m ρ K ⊢ cellInv EX (plan m ρ) (K ck) (exCell ck) := by
  unfold shared; iintro ⟨H, -⟩
  have h : (bigSep Finset.univ fun ck : Dev nD × Fin 3 => (cellInv EX (plan m ρ) (K ck) (exCell ck) : sProp 𝕄)) ⊢ cellInv EX (plan m ρ) (K ck) (exCell ck) :=
    bigSep_elim (Finset.mem_univ ck)
  iapply h; iexact H
theorem shared_reached (K : Dev nD × Fin 3 → ℕ) (ck : Dev nD × Fin 3) : shared m ρ K ⊢ reached EX (exCell ck) 0 := by
  unfold shared; iintro ⟨-, H⟩
  have h : (bigSep Finset.univ fun ck : Dev nD × Fin 3 => (reached EX (exCell ck) 0 : sProp 𝕄)) ⊢ reached EX (exCell ck) 0 := bigSep_elim (Finset.mem_univ ck)
  iapply h; iexact H

/-- The duties device `c` pays. -/
def pays (c : Dev nD) : sProp 𝕄 :=
  iprop(dutyTok EX (barCell (mate c)) 0 () ∗ dutyTok EX (sndCell c) 0 () ∗ dutyTok EX (rcvCell (mate c)) 0 ())

/-- Its places in its cells and the duties it pays, with what all may use, are device `c`'s share. -/
theorem ready_intro (K : Dev nD × Fin 3 → ℕ) (c : Dev nD) :
    iprop(shared m ρ K ∗ (bigSep Finset.univ fun k : Fin 3 => atPos EX (exCell (c, k)) 0 ∅ 0) ∗ pays c) ⊢ ready m ρ c := by
  rw [three]
  unfold pays ready ghost invs
  iintro ⟨#Hsh, ⟨PB, PS, PV⟩, TB, TS, TV⟩
  iexists K
  isplitr
  · isplitr; · iapply (shared_inv m ρ K (c, 0)); iexact Hsh
    isplitr; · iapply (shared_inv m ρ K (c, 1)); iexact Hsh
    isplitr; · iapply (shared_inv m ρ K (c, 2)); iexact Hsh
    isplitr; · iapply (shared_inv m ρ K (mate c, 0)); iexact Hsh
    iapply (shared_inv m ρ K (mate c, 2)); iexact Hsh
  isplitl [PB]; · iexact PB
  isplitl [PS]; · iexact PS
  isplitl [PV]; · iexact PV
  isplitr; · iapply (shared_reached m ρ K (mate c, 0)); iexact Hsh
  isplitr; · iapply (shared_reached m ρ K (c, 1)); iexact Hsh
  isplitr; · iapply (shared_reached m ρ K (c, 2)); iexact Hsh
  isplitl [TB]; · iexact TB
  isplitl [TV]; · iexact TV
  iexact TS

omit [FloatOps F] in
/-- The barrier's and the receive cell's duties change hands between mates; the send cell's stays. -/
theorem change_hands :
    (bigSep Finset.univ fun c : Dev nD => (bigSep Finset.univ fun k : Fin 3 => dutyTok EX (exCell (c, k)) 0 () : sProp 𝕄))
      ⊢ bigSep Finset.univ fun c : Dev nD => pays c := by
  unfold pays
  rw [bigSep_congr (s := Finset.univ) fun c _ => three fun k : Fin 3 => (dutyTok EX (exCell (c, k)) 0 () : sProp 𝕄)]
  rw [bigSep_sep', bigSep_sep', bigSep_sep', bigSep_sep',
    bigSep_univ_equiv swap (fun c : Dev nD => (dutyTok EX (exCell (c, 0)) 0 () : sProp 𝕄)),
    bigSep_univ_equiv swap (fun c : Dev nD => (dutyTok EX (exCell (c, 2)) 0 () : sProp 𝕄))]
  exact BI.Entails.refl _

/-- From every device's open cells to every device's share. -/
theorem share_out :
    (bigSep Finset.univ fun c : Dev nD => iprop((bigSep Finset.univ fun k => iprop(∃ κ : ℕ, cellInv EX (plan m ρ) κ (exCell (c, k))))
          ∗ (bigSep Finset.univ fun k : Fin 3 => atPos EX (exCell (c, k)) 0 ∅ 0)
          ∗ (bigSep Finset.univ fun k : Fin 3 => reached EX (exCell (c, k)) 0)
          ∗ bigSep Finset.univ fun k : Fin 3 => dutyTok EX (exCell (c, k)) 0 ()) : sProp 𝕄)
      ⊢ bigSep Finset.univ (ready m ρ) := by
  rw [bigSep_sep', bigSep_sep', bigSep_sep', ← bigSep_univ_prod (fun ck : Dev nD × Fin 3 => iprop(∃ κ : ℕ, cellInv EX (plan m ρ) κ (exCell ck))),
    ← bigSep_univ_prod (fun ck : Dev nD × Fin 3 => (reached EX (exCell ck) 0 : sProp 𝕄))]
  iintro ⟨HI, Hat, #HR, Htok⟩
  ihave HK := (BI.bigSep_exists_pi Finset.univ (fun (ck : Dev nD × Fin 3) (κ : ℕ) => (cellInv EX (plan m ρ) κ (exCell ck) : sProp 𝕄))) $$ HI
  icases HK with ⟨%K, #HI⟩
  ihave Htok := (change_hands (F := F)) $$ Htok
  have hall : iprop(shared m ρ K ∗ bigSep Finset.univ fun c : Dev nD => iprop((bigSep Finset.univ fun k : Fin 3 => atPos EX (exCell (c, k)) 0 ∅ 0) ∗ pays c))
      ⊢ bigSep Finset.univ (ready m ρ) :=
    (sep_mono_left (BI.bigSep_of_persistent Finset.univ (shared m ρ K))).trans
      (by rw [← bigSep_sep']; exact bigSep_mono fun c _ => ready_intro m ρ K c)
  iapply hall
  isplitr
  · unfold shared; isplitl; · iexact HI
    iexact HR
  rw [bigSep_sep']
  isplitl [Hat] <;> iassumption

/-- All devices' semaphores and dealt shares become their ready shares. -/
theorem global_step :
    (bigSep Finset.univ fun c => iprop(Pipeline.ownSems0 (Ix := Unit) (Name := ℕ) (U := AllU) (Lvl := ℕ) (Val := Elt F) (τ := τ) ownSem c ∗ unscopedSems0 c ∗ dealt m ρ c) : sProp 𝕄)
      ⊢ |={Set.univ}=> bigSep Finset.univ (ready m ρ) :=
  ((bigSep_mono fun c _ => open_cells m ρ c).trans (bigSep_fupd _ _)).trans (BI.fupd_mono (share_out m ρ))

/-! ## The credit at launch -/

theorem cell_device {a b : Dev nD} {s t : SemLoc sig} (h : (((a : Thread nD τ), s) : GSem nD τ sig) = ((b : Thread nD τ), t)) : a = b :=
  Fin.ext (congrArg (fun g : GSem nD τ sig => g.1.1.val) h)

/-- A tally at one semaphore of the mate of `d`, read at that semaphore of `c`. -/
theorem tally_mate (d c : Dev nD) (s : SemLoc sig) (n : ℕ) :
    (tallyAt (((mate d : Dev nD) : Thread nD τ), s) () n : CellTallies nD τ sig Unit) ((c : Thread nD τ), s) () = if d = mate c then n else 0 := by
  rw [tallyAt_apply]
  by_cases h : d = mate c
  · subst h; rw [mate_mate, if_pos ⟨rfl, rfl⟩, if_pos rfl]
  · rw [if_neg (fun ⟨h1, _⟩ => h (by rw [cell_device h1, mate_mate])), if_neg h]

/-- What device `d` owes device `c`'s barrier, -/
theorem owed_bar (d c : Dev nD) : owe0 d (barCell c) () = if d = mate c then 1 else 0 := by
  unfold owe0
  rw [Pi.add_apply, Finsupp.add_apply, tallyAt_ne_cell (fun h => rcv_ne_bar (congrArg Prod.snd h).symm), Finsupp.zero_apply, Nat.zero_add, tally_mate]
/-- and its receive cell. -/
theorem owed_rcv (d c : Dev nD) : owe0 d (rcvCell c) () = if d = mate c then N else 0 := by
  unfold owe0
  rw [Pi.add_apply, Finsupp.add_apply, tally_mate d c (.dma rcvS.sem) N, tallyAt_ne_cell (fun h => rcv_ne_bar (congrArg Prod.snd h)), Finsupp.zero_apply, Nat.add_zero]

/-- All that is owed a semaphore of device `c`, where only its mate owes it anything. -/
theorem owed_total (c : Dev nD) (s : SemLoc sig) (n : ℕ) (h : ∀ d, owe0 d ((c : Thread nD τ), s) () = if d = mate c then n else 0) :
    tallyOn ((c : Thread nD τ), s) (launchCredit (Pipeline.owing owe0) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate c) fun _ => n,
    if_pos (Finset.mem_univ _)]

omit [FloatOps F] in
/-- Device `c` holds the credit of its barrier and of its receive cell. -/
theorem credits (c : Dev nD) :
    (Pipeline.launchCred owe0 c : sProp 𝕄) ⊢ iprop(cred (tallyAt (barCell c) () 1) ∗ cred (tallyAt (rcvCell c) () N)) := by
  unfold Pipeline.launchCred
  rw [bigSep_univ_at _ (SemLoc.reg barS), owed_total c _ 1 fun d => owed_bar d c]
  refine sep_mono_right ?_
  rw [← owed_total c _ N fun d => owed_rcv d c]
  exact bigSep_elim (Finset.mem_erase.mpr ⟨rcv_ne_bar, Finset.mem_univ _⟩)

/-! ## Into the region and out of it -/

theorem begin_intro (c : Dev nD) :
    iprop(Pipeline.unscopedRestP Pipeline.Prefetch.none cfg0.spec c (fun b => m ((c : Thread nD τ).loc b)) ∗ levAts names level
        ∗ Pipeline.launchCred owe0 c ∗ prngReg c (ρ c) ∗ ready m ρ c)
      ⊢ |={Set.univ}=> iprop(begin0 m ρ c ∗ emp) := by
  iintro ⟨-, Hlev, Hcr, -, HG⟩
  ihave Hc := (credits (F := F) c) $$ Hcr
  icases Hc with ⟨H1, H2⟩
  imodintro
  unfold begin0 ready
  isplitl
  · isplitl [HG]; · iexact HG
    isplitl [H1]; · iexact H1
    isplitl [H2] <;> iassumption
  · iempintro

omit [FloatOps F] in
/-- The buffers of the kernel's own are those the region allocates beside the staging. -/
theorem scratches_eq (c : Dev nD) : (Pipeline.scopedRest cfg0.spec c : sProp 𝕄) = scratches c := by
  rw [show (Pipeline.scopedRest cfg0.spec c : sProp 𝕄) = Pipeline.scopedRest spec0 c from rfl, scopedRest0_eq]
  unfold scratches; simp only [minePts_eq, landPts_eq]; rfl

theorem region_in (c : Dev nD) :
    iprop(begin0 m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before0 m ρ c from rfl, scratches_eq]
  unfold before0
  iintro ⟨Hs, -, Hr⟩
  isplitl [Hs] <;> iassumption

theorem region_out (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = after0 c from rfl, scratches_eq, own_sems, runtime_sems]
  unfold after0
  iintro ⟨Hr, HS, HV, HB⟩
  isplitl [HB]; · iexact HB
  isplitl [HS HV]
  · isplitl [HS] <;> iassumption
  iexact Hr

theorem stage_waits (c : Dev nD) : (levAts names level : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ## The run -/

/-- What window `w`'s array holds on device `c` after the run. -/
def endArr (c : Dev nD) (w : Fin cfg0.W) : Buf (Elt F) ((cfg0.win w).arr.view.loc (c : Thread nD τ)) := (dats m ρ 0 c).arrAt w cfg0.N

def EndsAs : PUnit × MemSt nD τ sig (Elt F) → Prop := fun r =>
  ∀ c : Dev nD, ∀ w : Fin cfg0.W, r.2.mem ((cfg0.win w).arr.view.loc (c : Thread nD τ)) = endArr m ρ c w

set_option maxRecDepth 65536 in
/-- From any memory with zero counters every run of the program ends, each device's arrays as computed and every counter zero. -/
theorem run_main : θ_run defs (onTc (τ := τ) (main (F := F))) (start0 m ρ) (fun r => EndsAs m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) EP defs₀ 𝒱₀ m ρ main
    (hmain := fun _ => rfl)
    (hbody := body_obligation m ρ) (hne := block_pos0) (harr := arr_whole0) (hstage := stage_whole0)
    (hshare := fun c w => by unfold Dat.share; split <;> rfl)
    (hdistinct := winFacts0.arr_inj)
    (O₀ := owe0) (howed₀ := fun _ => rfl) (howedN := fun _ => rfl)
    (L := names) (lv := level) (hL := names_of_ne) (hwaits := stage_waits m ρ)
    (G := dealt m ρ) (G' := ready m ρ) (u₀ := launchU)
    (hu₀ := by
      unfold launchU
      iintro Hu
      ihave H := (ownU_pair _ _) $$ Hu
      icases H with ⟨HP, HX⟩
      imod (deal m ρ) $$ HX with HG
      imodintro
      isplitl [HP] <;> iassumption)
    (hglob := global_step m ρ)
    (hA := fun _ _ => rfl) (hpf := fun _ k => k.elim0)
    (X := begin0 m ρ) (Y := fun c => unscopedSems0 c) (Z := fun _ => iprop(emp))
    (hX := begin_intro m ρ) (hin := region_in m ρ) (hout := region_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is left as it was. -/
theorem end_x (c : Dev nD) : endArr m ρ c (0 : Fin 2) = m ((c : Thread nD τ).loc main_arg0) :=
  (dats (F := F) m ρ 0 c).arrAt_in (0 : Fin 2) rfl _

end Cert.TopK

end
-- ==== Proof.Frames.lean ====
/-
  The frames: each program ends, leaves its argument as it was and every semaphore counter at zero.

  The kernel and its ideal reading have one text, so both frames are the run of `Launch.lean` with the values
  dropped, at their own floats. The reference is a list of host operations and has no semaphore.
-/
module

public import proofs.«01_k».proof.Defs
public import proofs.«01_k».proof.Proof.Gen.Kernel
public import proofs.«01_k».proof.Proof.Launch
public import proofs.«01_k».proof.Proof.Gen.ReferenceIdeal.Run

@[expose] public section

noncomputable section

namespace Cert.TopK

open Idealize.ShloMosaic Idealize.ShloMosaic.TcCoe Idealize.SL.Sem

/-- Over any float values: the kernel ends, `x` is unchanged, every counter is zero. -/
theorem run_quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (end_x m ρ c), h.2⟩) (run_main m ρ)

set_option maxRecDepth 65536 in
/-- The two programs have the same body table. -/
theorem table_same : Cert.Kernel.defs (F := Bits) = Cert.KernelIdeal.defs (F := Bits) := by
  refine congrArg (Pipeline.defs Cert.KernelIdeal.pcfgs) ?_
  unfold Cert.Kernel.defs₀ Cert.KernelIdeal.defs₀
  congr 1
  funext l a
  match l, a with
  | 0, (t, s) => rfl

/-- The kernel as compiled: it ends, `x` is unchanged, every counter is zero. -/
theorem frame_kernel : Cert.quiescent_Kernel := fun m ρ _ => by
  rw [table_same]; exact run_quiet (F := Bits) m ρ

/-- The kernel over the extended reals: the same. -/
theorem frame_ideal : Cert.quiescent_KernelIdeal := fun m ρ _ => run_quiet (F := Ideal) m ρ

/-- The reference over the extended reals: the same; it has no counter that could move. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.TopK

end
-- ==== Proof.Count.lean ====
/-
  Counting: the k-th largest entry of a row is known by how many entries lie above each threshold.

  `above v f` is the number of entries of `f` greater than `v`. Taking the maximum away lowers it by one
  (`above_takeMax`); the maximum exceeds `v` exactly if the number is not 0 (`lt_rowTop`). So the maximum after `k`
  removals exceeds `v` exactly if more than `k` entries of the first row do (`lt_rowTop_after`), and the same holds of
  entry `k` of the row sorted downwards (`lt_antitone`). Two values that exceed the same thresholds are equal.
-/
module

public import Mathlib.Data.EReal.Basic
public import Mathlib.Data.Finset.Fold
public import Mathlib.Data.Finset.Lattice.Fold
public import Mathlib.Algebra.BigOperators.Fin
public import Mathlib.Order.Interval.Finset.Fin

@[expose] public section

noncomputable section

namespace Cert.TopK

variable {n : ℕ}

/-- How many entries of `f` are greater than `v`. -/
def above (v : EReal) (f : Fin n → EReal) : ℕ := (Finset.univ.filter fun i => v < f i).card

/-- The greatest entry of `f`; −∞ of no entries. -/
def rowTop (f : Fin n → EReal) : EReal := Finset.univ.fold max ⊥ f

/-- `g` is `f` with one of its greatest entries replaced by −∞. -/
def TakesMax (f g : Fin n → EReal) : Prop := ∃ p, (∀ i, f i ≤ f p) ∧ g = Function.update f p ⊥

/-- The greatest entry exceeds `v` exactly if some entry does. -/
theorem lt_rowTop (v : EReal) (f : Fin n → EReal) : v < rowTop f ↔ 0 < above v f := by
  unfold rowTop above
  rw [Finset.lt_fold_max, Finset.card_pos]
  constructor
  · rintro (h | ⟨i, _, h⟩)
    · exact absurd h not_lt_bot
    · exact ⟨i, Finset.mem_filter.mpr ⟨Finset.mem_univ i, h⟩⟩
  · rintro ⟨i, h⟩
    exact Or.inr ⟨i, Finset.mem_univ i, (Finset.mem_filter.mp h).2⟩

/-- No entry exceeds the greatest. -/
theorem le_rowTop (f : Fin n → EReal) (i : Fin n) : f i ≤ rowTop f :=
  (Finset.le_fold_max (f i)).mpr (Or.inr ⟨i, Finset.mem_univ i, le_rfl⟩)

/-- Of a row with an entry, some entry is the greatest. -/
theorem exists_rowTop [NeZero n] (f : Fin n → EReal) : ∃ p, f p = rowTop f := by
  obtain ⟨p, -, hp⟩ := Finset.exists_max_image Finset.univ f ⟨0, Finset.mem_univ _⟩
  refine ⟨p, le_antisymm (le_rowTop f p) (not_lt.mp fun h => ?_)⟩
  have := (lt_rowTop (f p) f).mp h
  obtain ⟨i, hi⟩ := Finset.card_pos.mp this
  exact absurd (Finset.mem_filter.mp hi).2 (not_lt.mpr (hp i (Finset.mem_univ i)))

/-- Taking a greatest entry away lowers the number above every threshold by one (0 stays 0). -/
theorem above_takeMax {f g : Fin n → EReal} (h : TakesMax f g) (v : EReal) : above v g = above v f - 1 := by
  obtain ⟨p, hp, rfl⟩ := h
  have e : (Finset.univ.filter fun i => v < Function.update f p ⊥ i) = (Finset.univ.filter fun i => v < f i).erase p := by
    ext i
    simp only [Finset.mem_filter, Finset.mem_univ, true_and, Finset.mem_erase]
    by_cases hi : i = p
    · subst hi; simp
    · simp [Function.update_of_ne hi, hi]
  unfold above
  rw [e, Finset.card_erase_eq_ite]
  split
  · rfl
  · next hv =>
    have hv' : f p ≤ v := not_lt.mp fun hlt => hv (Finset.mem_filter.mpr ⟨Finset.mem_univ p, hlt⟩)
    have : (Finset.univ.filter fun i => v < f i) = ∅ :=
      Finset.filter_eq_empty_iff.mpr fun i _ => not_lt.mpr ((hp i).trans hv')
    rw [this]; rfl

/-- After `k` removals the number above a threshold is lower by `k`. -/
theorem above_after {f : ℕ → Fin n → EReal} (h : ∀ k, TakesMax (f k) (f (k + 1))) (v : EReal) (k : ℕ) :
    above v (f k) = above v (f 0) - k := by
  induction k with
  | zero => rfl
  | succ k ih => rw [above_takeMax (h k), ih, Nat.sub_sub]

/-- The maximum after `k` removals exceeds `v` exactly if more than `k` entries did at first. -/
theorem lt_rowTop_after {f : ℕ → Fin n → EReal} (h : ∀ k, TakesMax (f k) (f (k + 1))) (v : EReal) (k : ℕ) :
    v < rowTop (f k) ↔ k < above v (f 0) := by
  rw [lt_rowTop, above_after h, Nat.sub_pos_iff_lt]

/-- Entry `k` of a row that never rises exceeds `v` exactly if more than `k` entries do. -/
theorem lt_antitone {f : Fin n → EReal} (h : Antitone f) (v : EReal) (k : Fin n) : v < f k ↔ k.val < above v f := by
  constructor
  · intro hv
    have : Finset.Iic k ⊆ Finset.univ.filter fun i => v < f i := fun i hi =>
      Finset.mem_filter.mpr ⟨Finset.mem_univ i, hv.trans_le (h (Finset.mem_Iic.mp hi))⟩
    have := Finset.card_le_card this
    rw [Fin.card_Iic] at this
    exact this
  · intro hk
    by_contra hv
    have : (Finset.univ.filter fun i => v < f i) ⊆ Finset.Iio k := fun i hi =>
      Finset.mem_Iio.mpr (not_le.mp fun hle => hv ((Finset.mem_filter.mp hi).2.trans_le (h hle)))
    have := Finset.card_le_card this
    rw [Fin.card_Iio] at this
    exact absurd hk (not_lt.mpr this)

/-- Rearranging a row changes no count. -/
theorem above_rearranged {m : ℕ} (v : EReal) (f : Fin n → EReal) {s : Fin m → Fin n} (hs : Function.Bijective s) :
    above v (f ∘ s) = above v f := by
  unfold above
  rw [Finset.card_filter, Finset.card_filter]
  exact Function.Bijective.sum_comp hs fun i => if v < f i then 1 else 0

/-- The counts of two rows put side by side add up. -/
theorem above_append {a b : ℕ} (v : EReal) (f : Fin (a + b) → EReal) :
    above v f = above v (fun i => f (Fin.castAdd b i)) + above v (fun i => f (Fin.natAdd a i)) := by
  unfold above
  rw [Finset.card_filter, Finset.card_filter, Finset.card_filter]
  exact Fin.sum_univ_add fun i => if v < f i then 1 else 0

/-- If entry `k` of a row exceeds `v` exactly for `k` below `N`, then `N` entries do, or all of them. -/
theorem above_tops {v : EReal} {f : Fin n → EReal} {N : ℕ} (h : ∀ k : Fin n, v < f k ↔ k.val < N) : above v f = min n N := by
  unfold above
  rw [Finset.filter_congr fun k _ => h k]
  exact Fin.card_filter_val_lt ..

/-- Values that exceed the same thresholds are equal. -/
theorem eq_of_thresholds {a b : EReal} (h : ∀ v, v < a ↔ v < b) : a = b := eq_of_forall_lt_iff h

end Cert.TopK

end
-- ==== Proof.Round.lean ====
/-
  One round of the kernel, read on one row of extended reals.

  The row maximum is the row's greatest entry; the position found is that of an entry that equals it; so the round
  replaces one greatest entry by −∞ (`dropFirst_takesMax`). Everything holds for rows of any length below 2³¹.
-/
module

public import proofs.«01_k».proof.Proof.Extract
public import proofs.«01_k».proof.Proof.Count
public import Idealize.ShloMosaic.PureOps.Ideal.Laws
public import Idealize.ShloMosaic.Lib.Pipeline.Value
public import Idealize.ShloMosaic.Lib.ValueLayoutCasts
public import Idealize.ShloMosaic.Lib.WordCmp

@[expose] public section

noncomputable section

namespace Cert.TopK

open Cert.KernelIdeal Cert.KernelIdeal.Gen
open Idealize.ShloMosaic Idealize.ShloMosaic.ValueIdx

variable {n : ℕ}

/-- Row `r` of an array of 512 rows. -/
def rowOf {α : Type} (v : (Rows n).Idx → α) (r : Fin 512) : Fin n → α := fun i => v (ix2 r i)

/-- The word for −∞ denotes −∞. -/
theorem ofBits_negInf : (FloatOps.ofBits .f32 0xFF800000#32 : Ideal .f32) = (⊥ : EReal) := by
  show Ideal.ofBits .f32 0xFF800000#32 = ⊥
  simp [Ideal.ofBits, Ideal.ieee]

/-- Putting the second coordinate back: the entries that a row reduction folds. -/
theorem lift_row (hr : (Rows n).Reduces [1] S512) (r : Fin 512) (k : Fin ((Rows n).size 1)) :
    hr.lift (ix1 r) k = ix2 r (⟨k.val, k.isLt⟩ : Fin n) := by
  funext c; apply Fin.ext
  match c with
  | ⟨0, _⟩ => rfl
  | ⟨1, _⟩ => rfl

/-- A column spread over the rows reads, at `(r, i)`, the column at `r`. -/
theorem spread_apply {α : Type} (x : S512x1.Idx → α) (hb : S512x1.Broadcasts (Rows n)) (r : Fin 512) (i : Fin n) :
    broadcastTo (Rows n) x hb (ix2 r i) = x (ix2 r (0 : Fin 1)) :=
  congrArg x (funext fun a => Fin.ext (by
    match a with
    | ⟨0, _⟩ => rfl
    | ⟨1, _⟩ => rfl))

section Round
variable (hr : (Rows n).Reduces [1] S512) (hb : S512x1.Broadcasts (Rows n))

/-- The row maximum is the greatest entry of the row. -/
theorem rowMax_apply (v : FVec Ideal (Rows n) .f32) (r : Fin 512) : rowMax hr v (ix2 r (0 : Fin 1)) = rowTop (rowOf v r) := by
  unfold rowMax
  rw [shapeCast_a_a1_apply]
  refine (Ideal.multiReduction_maximumf_single (a := 1) v _ hr _ _ (ix1 r)).trans ?_
  rw [ofBits_negInf]
  exact congrArg (fun f : Fin n → EReal => Finset.univ.fold max ⊥ f) (funext fun k => congrArg v (lift_row hr r k))

/-- The least of some words, as integers: at most `c` exactly if the start or one of the words is. -/
theorem least_le (g : Fin n → BitVec 32) (z : BitVec 32) (c : ℤ) :
    (Finset.univ.fold IntOp.minsi z g).toInt ≤ c ↔ z.toInt ≤ c ∨ ∃ i, (g i).toInt ≤ c := by
  have h := Finset.fold_hom (op := IntOp.minsi (w := 32)) (op' := min) (m := BitVec.toInt) (s := Finset.univ) (b := z) (f := g)
    (fun x y => (by
      show (if x.slt y then x else y).toInt = min x.toInt y.toInt
      by_cases h : x.toInt < y.toInt
      · rw [if_pos (BitVec.slt_iff_toInt_lt.mpr h), min_eq_left h.le]
      · rw [if_neg (fun e => h (BitVec.slt_iff_toInt_lt.mp e)), min_eq_right (not_lt.mp h)]))
  rw [← h, Finset.fold_min_le]
  simp

variable (pos : IVec (Rows n) 32) (miss : BitVec 32)

/-- An entry's candidate word: its position where it equals the row's greatest entry, the word for "none" elsewhere. -/
theorem hits_apply (v : FVec Ideal (Rows n) .f32) (r : Fin 512) (i : Fin n) :
    hits hr hb pos miss v (ix2 r i) = if v (ix2 r i) = rowTop (rowOf v r) then pos (ix2 r i) else miss := by
  show Scalar.select (BitVec.ofBool (decide (v (ix2 r i) = broadcastTo (Rows n) (rowMax hr v) hb (ix2 r i)))) (pos (ix2 r i)) miss = _
  rw [spread_apply, rowMax_apply, WordCmp.select_ofBool]
  simp

/-- A round replaces, in every row, one greatest entry by −∞. -/
theorem dropFirst_takesMax [NeZero n] (hn : n < 2 ^ 31) (hpos : ∀ r i, pos (ix2 r i) = BitVec.ofNat 32 i.val)
    (hmiss : miss = BitVec.ofNat 32 n) (v : FVec Ideal (Rows n) .f32) (r : Fin 512) :
    TakesMax (rowOf v r) (rowOf (dropFirst hr hb pos miss v) r) := by
  have hint : ∀ a : ℕ, a ≤ n → (BitVec.ofNat 32 a).toInt = (a : ℤ) := fun a ha => WordCmp.toInt_ofNat_of_lt (by omega)
  obtain ⟨q, hq⟩ := exists_rowTop (rowOf v r)
  -- the least candidate word of the row
  have hle := least_le (rowOf (hits hr hb pos miss v) r) 2147483647#32
  have hword : ∀ i, rowOf (hits hr hb pos miss v) r i = if rowOf v r i = rowTop (rowOf v r) then BitVec.ofNat 32 i.val else BitVec.ofNat 32 n :=
    fun i => (hits_apply hr hb pos miss v r i).trans (by rw [hpos, hmiss]; rfl)
  have hsmall : (Finset.univ.fold IntOp.minsi 2147483647#32 (rowOf (hits hr hb pos miss v) r)).toInt < n := by
    have h := (hle q.val).mpr (Or.inr ⟨q, by rw [hword, if_pos hq, hint _ q.isLt.le]⟩)
    have := q.isLt
    omega
  obtain ⟨p, hp⟩ : ∃ p : Fin n, rowOf v r p = rowTop (rowOf v r)
      ∧ Finset.univ.fold IntOp.minsi 2147483647#32 (rowOf (hits hr hb pos miss v) r) = BitVec.ofNat 32 p.val := by
    rcases (hle _).mp le_rfl with h | ⟨p, h⟩
    · have : (2147483647#32).toInt = 2147483647 := by decide
      omega
    · have hge := (hle _).mpr (Or.inr ⟨p, le_rfl⟩)
      by_cases e : rowOf v r p = rowTop (rowOf v r)
      · exact ⟨p, e, by rw [BitVec.eq_of_toInt_eq (le_antisymm hge h), hword, if_pos e]⟩
      · rw [hword, if_neg e, hint n le_rfl] at h
        omega
  refine ⟨p, fun i => (le_rowTop _ i).trans_eq hp.1.symm, funext fun i => ?_⟩
  have hmin : broadcastTo (Rows n) (shapeCast S512x1 (multiReductionI .minsi [1] S512 (hits hr hb pos miss v) 2147483647#32 hr rfl)
      shapeCasts_S512_S512x1) hb (ix2 r i) = BitVec.ofNat 32 p.val := by
    rw [spread_apply, shapeCast_a_a1_apply, ← hp.2]
    refine (multiReductionI_eq_fold .minsi _ _ hr rfl (ix1 r)).trans ?_
    refine (hr.fold_filter_drop_single (a := 1) IntOp.minsi _ _ (ix1 r)).trans ?_
    exact congrArg (fun g : Fin n → BitVec 32 => Finset.univ.fold IntOp.minsi 2147483647#32 g) (funext fun k => congrArg _ (lift_row hr r k))
  show Scalar.select (IntOp.cmpi .eq (pos (ix2 r i)) (broadcastTo (Rows n) _ hb (ix2 r i))) (FloatOps.ofBits .f32 0xFF800000#32 : Ideal .f32) (v (ix2 r i))
    = Function.update (rowOf v r) p ⊥ i
  rw [hmin, hpos, WordCmp.cmpi_eq_ofNat (by have := i.isLt; omega) (by have := p.isLt; omega), WordCmp.select_ofBool, ofBits_negInf]
  by_cases e : i = p
  · subst e; simp
  · rw [Function.update_of_ne e, if_neg (by simpa [Fin.val_inj] using e)]; rfl

end Round

end Cert.TopK

end
-- ==== Proof.Value.lean ====
/-
  What the kernel computes over the extended reals.

  Entry `k` of a device's own maxima exceeds a threshold exactly if more than `k` entries of its block's row do
  (`lt_topOf`). Of the merged result the same holds with the entries of the two blocks' rows together (`lt_outOf`):
  the candidates keep at most 16 entries above the threshold from either side, which is enough for `k < 16`.
-/
module

public import proofs.«01_k».proof.Proof.Round

@[expose] public section

noncomputable section

namespace Cert.TopK

open Cert.KernelIdeal Cert.KernelIdeal.Gen
open Idealize.ShloMosaic Idealize.ShloMosaic.ValueIdx

/-- Over the extended reals widening changes nothing. -/
theorem widen_eq {s : Shape} (w : FVec Ideal s .bf16) (h : FTy.bits .bf16 < FTy.bits .f32) : extf .f32 w h = w := rfl

/-- Over the extended reals narrowing changes nothing. -/
theorem narrow_eq {s : Shape} (w : FVec Ideal s .f32) (h : FTy.bits .bf16 < FTy.bits .f32) : truncf .bf16 w h = w := rfl

/-! ## The device's own block -/

theorem posBlock_apply (r : Fin 512) (i : Fin 4096) : posBlock (ix2 r i) = BitVec.ofNat 32 i.val :=
  iota_single_apply .tc S512x4096 32 1 iota_S512x4096_d1_w32 (ix2 r i)

/-- A round takes one greatest entry out of every row of the work buffer. -/
theorem workAt_takesMax (x : FVec Ideal S512x4096 .bf16) (r : Fin 512) (k : ℕ) :
    TakesMax (n := 4096) (rowOf (workAt x k) r) (rowOf (workAt x (k + 1)) r) := by
  have h := dropFirst_takesMax (n := 4096) reduces_S512x4096_S512 broadcasts_S512x1_S512x4096 posBlock 4096#32 (by decide)
    posBlock_apply rfl (extf .f32 (workAt x k) bitsLt_bf16_f32) r
  rw [show workAt x (k + 1) = workNext (workAt x k) from rfl]
  unfold workNext
  rw [shapeCast_self, narrow_eq]
  rwa [widen_eq] at h ⊢

/-- The work buffer starts as the block. -/
theorem workAt_zero (x : FVec Ideal S512x4096 .bf16) : workAt x 0 = x := by
  show shapeCast S512x4096 (shapeCast S512x4096 x _) _ = x
  rw [shapeCast_self, shapeCast_self]

/-- Entry `k` of a row of the device's own maxima exceeds `v` exactly if more than `k` entries of the block's row do. -/
theorem lt_topOf (x : FVec Ideal S512x4096 .bf16) (v : EReal) (r : Fin 512) (k : Fin 16) :
    v < rowOf (n := 16) (topOf x) r k ↔ k.val < above (n := 4096) v (rowOf x r) := by
  have h : rowOf (n := 16) (topOf x) r k = rowTop (rowOf (n := 4096) (workAt x k.val) r) := by
    show topCol x k.val (ix2 r (0 : Fin 1)) = _
    unfold topCol
    rw [shapeCast_self, narrow_eq, widen_eq]
    exact rowMax_apply (n := 4096) reduces_S512x4096_S512 (workAt x k.val) r
  rw [h, lt_rowTop_after (workAt_takesMax x r), workAt_zero]

/-! ## The candidates -/

theorem posCand_apply (r : Fin 512) (i : Fin 32) : posCand (ix2 r i) = BitVec.ofNat 32 i.val :=
  iota_single_apply .tc S512x32 32 1 iota_S512x32_d1_w32 (ix2 r i)

/-- A round takes one greatest entry out of every row of the candidates. -/
theorem candAt_takesMax (a b : FVec Ideal S512x16 .bf16) (r : Fin 512) (k : ℕ) :
    TakesMax (n := 32) (rowOf (candAt a b k) r) (rowOf (candAt a b (k + 1)) r) :=
  dropFirst_takesMax (n := 32) reduces_S512x32_S512 broadcasts_S512x1_S512x32 posCand 32#32 (by decide) posCand_apply rfl (candAt a b k) r

/-- The candidates' row above a threshold: the one side's entries and the other's. -/
theorem above_candAt (a b : FVec Ideal S512x16 .bf16) (v : EReal) (r : Fin 512) :
    above (n := 32) v (rowOf (candAt a b 0) r) = above (n := 16) v (rowOf a r) + above (n := 16) v (rowOf b r) := by
  refine (above_append (a := 16) (b := 16) v (rowOf (n := 32) (candAt a b 0) r)).trans (congrArg₂ (· + ·) ?_ ?_) <;>
    refine congrArg (above v) (funext fun i => ?_)
  · exact concatenate_pair_apply_left (t := S512x32) 1 a b concatenates_S512x16_S512x16_S512x32_d1 _ rfl (ix2 r i) (fun c => by
      match c with
      | ⟨0, _⟩ => rfl
      | ⟨1, _⟩ => rfl)
  · exact concatenate_pair_apply_right (t := S512x32) 1 a b concatenates_S512x16_S512x16_S512x32_d1 _ rfl rfl (ix2 r i) (fun c hc => by
      match c, hc with
      | ⟨0, _⟩, _ => rfl
      | ⟨1, _⟩, hc => exact absurd rfl hc) (Nat.add_comm _ _)

/-- Entry `k` of a row of the result exceeds `v` exactly if more than `k` entries of the two blocks' rows do. -/
theorem lt_outOf (x y : FVec Ideal S512x4096 .bf16) (v : EReal) (r : Fin 512) (k : Fin 16) :
    v < rowOf (n := 16) (outOf (topOf x) (topOf y)) r k
      ↔ k.val < above (n := 4096) v (rowOf x r) + above (n := 4096) v (rowOf y r) := by
  have h : rowOf (n := 16) (outOf (topOf x) (topOf y)) r k = rowTop (rowOf (n := 32) (candAt (topOf x) (topOf y) k.val) r) :=
    rowMax_apply (n := 32) reduces_S512x32_S512 (candAt (topOf x) (topOf y) k.val) r
  rw [h, lt_rowTop_after (candAt_takesMax _ _ r), above_candAt, above_tops (lt_topOf x v r), above_tops (lt_topOf y v r)]
  have := k.isLt
  omega

end Cert.TopK

end
-- ==== Proof.Reference.lean ====
/-
  What the reference computes over the extended reals.

  It sorts the positions of every row by the negated entries, keeps the first sixteen positions and reads the entries
  there. The sort permutes the row and leaves no rise, so entry `k` of the result exceeds a threshold exactly if more
  than `k` entries of the row do (`lt_refOut`).
-/
module

public import proofs.«01_k».proof.Proof.Gen.ReferenceIdeal.Run
public import proofs.«01_k».proof.Proof.Count
public import Idealize.ShloMosaic.PureOps.Ideal.Laws
public import Idealize.ShloMosaic.Lib.Pipeline.Value
public import Idealize.ShloMosaic.Lib.ValueIdxCore
public import Idealize.ShloMosaic.Lib.SortFacts
public import Idealize.ShloMosaic.Lib.WordCmp

@[expose] public section

noncomputable section

namespace Cert.TopK.Ref

open Cert.ReferenceIdeal Cert.ReferenceIdeal.Gen
open Idealize.ShloMosaic Idealize.ShloMosaic.ValueIdx

variable {F : FTy → Type} [FloatOps F]

/-! ## The reference's terms -/

/-- The positions of every row in the order of its entries. -/
def order (x : FVec F S512x8192 .f32) : IVec S512x8192 32 :=
  (Host.sort2 S512x8192 1 comparator_f32_i32_d1 x (iotaInDim S512x8192 32 1)).2

/-- The first sixteen positions of every row. -/
def firsts (x : FVec F S512x8192 .f32) : IVec S512x16 32 :=
  extractStridedSlice S512x16 ![0, 0] (order (Host.negf x)) slices_S512x8192_S512x16_0_0

/-- Positions counted from the row's end where they are negative. -/
def wrapped (w : IVec S512x16 32) : IVec S512x16x1 32 :=
  shapeCast _ (select (cmpi .slt w (broadcastInDim S512x16 ![] bcast_S_S512x16 (constantI S_ 32 0#32)))
    (addi w (broadcastInDim S512x16 ![] bcast_S_S512x16 (constantI S_ 32 8192#32))) w) shapeCasts_S512x16_S512x16x1

/-- Where a position lies inside the row. -/
def inside (w : IVec S512x16 32) : IVec S512x16 1 :=
  Host.reduce IntOp.andi (andi (cmpi .sge (wrapped w) (broadcastInDim S512x16x1 ![] bcast_S_S512x16x1 (constantI S_ 32 0#32)))
      (cmpi .sle (wrapped w) (broadcastInDim S512x16x1 ![0, 1, 2] bcast_S1x1x1_S512x16x1_0_1_2
        (broadcastInDim S1x1x1 ![2] bcast_S1_S1x1x1_2 (constantI S1 32 8191#32)))))
    (constantI S_ 1 1#1) reducesTo_S512x16x1_S512x16_d2 h_S_

/-- The entries at given positions of every row. -/
def entriesAt (x : FVec F S512x8192 .f32) (w : IVec S512x16 32) : FVec F S512x16 .f32 :=
  select (inside w) (Host.gather gather_S512x8192_S512x16x1_S512x16_n_1_0_0_1_2_11 x (wrapped w))
    (broadcastInDim S512x16 ![] bcast_S_S512x16 (constant S_ .f32 0x7FC00000#32))

/-- The reference's result from its argument. -/
def refOut (X : FVec F S512x8192 .bf16) : FVec F S512x16 .f32 :=
  entriesAt (extf .f32 X bitsLt_bf16_f32) (firsts (extf .f32 X bitsLt_bf16_f32))

/-! ## Reading entries at positions inside the row -/

/-- The conjunction of bits that are all one is one. -/
theorem fold_and_ones {ι : Type} (s : Finset ι) (g : ι → BitVec 1) (h : ∀ i, g i = 1#1) : s.fold IntOp.andi 1#1 g = 1#1 := by
  classical
  induction s using Finset.induction_on with
  | empty => rfl
  | insert a s ha ih => rw [Finset.fold_insert ha, ih, h]; rfl

section Positions
variable {w : IVec S512x16 32} {p : Fin 512 → Fin 16 → Fin 8192} (hw : ∀ r k, w (ix2 r k) = BitVec.ofNat 32 (p r k).val)
include hw

/-- A position inside the row is left as it is. -/
theorem wrapped_apply (r : Fin 512) (k : Fin 16) : wrapped w (ix3 r k (0 : Fin 1)) = BitVec.ofNat 32 (p r k).val := by
  unfold wrapped
  rw [shapeCast_apply _ _ _ (ix2 r k) (by
    rw [Shape.rowMajor_val_three, Shape.rowMajor_val_two]
    show r.val * 16 + k.val = (r.val * 16 + k.val) * 1 + 0
    omega)]
  show Scalar.select (IntOp.cmpi .slt (w (ix2 r k)) 0#32) _ (w (ix2 r k)) = _
  have := (p r k).isLt
  rw [hw, WordCmp.cmpi_slt_ofNat (by omega) (by omega), WordCmp.select_ofBool, decide_eq_false (by omega)]
  rfl

/-- A position inside the row counts as inside. -/
theorem inside_apply (r : Fin 512) (k : Fin 16) : inside w (ix2 r k) = 1#1 := by
  unfold inside
  have hr : S512x16x1.Reduces [2] S512x16 := by decide
  have := (p r k).isLt
  have hi := WordCmp.toInt_ofNat_of_lt (w := 32) (a := (p r k).val) (by omega)
  rw [Host.reduce_eq_fold_single (a := 2) IntOp.andi _ _ reducesTo_S512x16x1_S512x16_d2 hr h_S_ (ix2 r k)]
  have h1 : ∀ c : Fin 1, hr.lift (ix2 r k) c = ix3 r k (0 : Fin 1) := fun c => funext fun a => Fin.ext (by
    match a with
    | ⟨0, _⟩ => rfl
    | ⟨1, _⟩ => rfl
    | ⟨2, _⟩ => exact congrArg Fin.val (Subsingleton.elim c 0))
  have h2 : ∀ c : Fin 1, (andi (cmpi .sge (wrapped w) (broadcastInDim S512x16x1 ![] bcast_S_S512x16x1 (constantI S_ 32 0#32)))
      (cmpi .sle (wrapped w) (broadcastInDim S512x16x1 ![0, 1, 2] bcast_S1x1x1_S512x16x1_0_1_2
        (broadcastInDim S1x1x1 ![2] bcast_S1_S1x1x1_2 (constantI S1 32 8191#32)))) ∘ hr.lift (ix2 r k)) c = 1#1 := fun c => by
    show IntOp.andi (IntOp.cmpi .sge (wrapped w (hr.lift (ix2 r k) c)) 0#32) (IntOp.cmpi .sle (wrapped w (hr.lift (ix2 r k) c)) 8191#32) = 1#1
    rw [h1, wrapped_apply hw, (IntOp.cmpi_sge ..).mpr (by rw [hi]; simp), (IntOp.cmpi_sle ..).mpr (by rw [hi]; simp; omega)]
    rfl
  exact fold_and_ones _ _ h2

/-- The gather at a position inside the row reads the entry there. -/
theorem gather_apply {α : Type} (x : S512x8192.Idx → α) (r : Fin 512) (k : Fin 16) :
    Host.gather gather_S512x8192_S512x16x1_S512x16_n_1_0_0_1_2_11 x (wrapped w) (ix2 r k) = x (ix2 r (p r k)) := by
  have := (p r k).isLt
  have hi := WordCmp.toInt_ofNat_of_lt (w := 32) (a := (p r k).val) (by omega)
  unfold Host.gather
  refine congrArg x (funext fun a => Fin.ext ?_)
  let d := gather_S512x8192_S512x16x1_S512x16_n_1_0_0_1_2_11
  show d.start (ix2 r k) (wrapped w) a + d.batchCoord (ix2 r k) a + d.offCoord (ix2 r k) a = _
  rw [GatherDims.offCoord_eq_zero _ _ _ (fun h => (GatherDims.mem_sKept _ _).mp h |>.elim (by
    match a with
    | ⟨0, _⟩ => exact fun _ h => h (List.mem_singleton.mpr rfl)
    | ⟨1, _⟩ => exact fun h _ => h (List.mem_singleton.mpr rfl))), Nat.add_zero]
  match a with
  | ⟨0, h0⟩ =>
    rw [GatherDims.start_batching _ _ _ _ (List.mem_singleton.mpr rfl), Nat.zero_add]
    unfold GatherDims.batchCoord
    rw [dif_pos (show (⟨0, h0⟩ : Fin S512x8192.rank) ∈ d.operandBatchingDims from List.mem_singleton.mpr rfl)]
    rfl
  | ⟨1, h1⟩ =>
    rw [GatherDims.batchCoord_eq_zero _ _ _ (show (1 : Fin 2) ∉ [0] by decide), Nat.add_zero]
    unfold GatherDims.start
    rw [dif_pos (show (⟨1, h1⟩ : Fin S512x8192.rank) ∈ d.startIndexMap from List.mem_singleton.mpr rfl)]
    rw [show d.siIdx (ix2 r k) ⟨List.idxOf (⟨1, h1⟩ : Fin S512x8192.rank) d.startIndexMap, List.idxOf_lt_length_iff.2 (List.mem_singleton.mpr rfl)⟩
        = ix3 r k (0 : Fin 1) from funext fun b => Fin.ext (by
      match b with
      | ⟨0, _⟩ => rfl
      | ⟨1, _⟩ => rfl
      | ⟨2, _⟩ => rfl), wrapped_apply hw, hi]
    show min (p r k).val (8192 - 1) = (p r k).val
    omega

/-- The entries at positions inside the row. -/
theorem entriesAt_apply (x : FVec F S512x8192 .f32) (r : Fin 512) (k : Fin 16) : entriesAt x w (ix2 r k) = x (ix2 r (p r k)) := by
  unfold entriesAt
  rw [show ∀ (m : IVec S512x16 1) (a b : FVec F S512x16 .f32) (i : S512x16.Idx), select m a b i = Scalar.select (m i) (a i) (b i) from
    fun _ _ _ _ => rfl, inside_apply hw, gather_apply hw]
  rfl

end Positions

/-! ## The sorted positions -/

/-- Position number `k` of row `r`, sorted by the negated entries `-f`. -/
def place {n : ℕ} (f : Fin n → EReal) : Fin n → Fin n := sortedFrom fun i j => decide (-f i < -f j)

/-- The places are all the positions, each once. -/
theorem place_bijective {n : ℕ} (f : Fin n → EReal) : Function.Bijective (place f) :=
  ⟨sortedFrom_injective _, sortedFrom_surjective _⟩

/-- Read at the places the row never rises. -/
theorem place_antitone {n : ℕ} (f : Fin n → EReal) : Antitone (f ∘ place f) := by
  intro i j hij
  rcases hij.eq_or_lt with rfl | hlt
  · exact le_rfl
  have h := sortedFrom_noInversion (fun i j => decide (-f i < -f j)) (fun i j => decide (-f i < -f j))
    (fun a b h => by simp only [decide_eq_true_eq, decide_eq_false_iff_not] at h ⊢; exact h.not_gt)
    (fun _ _ h => h)
    (fun a b c h h' => by simp only [decide_eq_false_iff_not, not_lt] at h h' ⊢; exact h'.trans h) i j hlt
  simp only [decide_eq_false_iff_not, not_lt] at h
  exact EReal.neg_le_neg_iff.mp h

/-- The sort's comparison is that of the keys. -/
theorem comparator_eq (a b : EReal) (i j : BitVec 32) :
    comparator_f32_i32_d1 (F := Ideal) (a, i) (b, j) = BitVec.ofBool (decide (a < b)) := by
  have hz : (FloatOps.ofBits .f32 0x00000000#32 : Ideal .f32) = (0 : EReal) := by
    show Ideal.ofBits .f32 0x00000000#32 = 0
    simp [Ideal.ofBits, Ideal.ieee]
  have hk : ∀ a : EReal, Scalar.select (FloatOps.cmpf (F := Ideal) (φ := .f32) .une a a) (FloatOps.ofBits .f32 0x7FC00000#32 : Ideal .f32)
      (Scalar.select (FloatOps.cmpf (F := Ideal) (φ := .f32) .oeq a (FloatOps.ofBits .f32 0x00000000#32 : Ideal .f32)) (FloatOps.ofBits .f32 0x00000000#32 : Ideal .f32) a) = a := by
    intro a
    rw [hz]
    show Scalar.select (BitVec.ofBool (decide (a ≠ a))) _ (Scalar.select (BitVec.ofBool (decide (a = 0))) (0 : EReal) a) = a
    rw [WordCmp.select_ofBool, WordCmp.select_ofBool]
    by_cases h : a = 0 <;> simp [h]
  unfold comparator_f32_i32_d1
  simp only [hk]
  rfl

/-- The sorted positions as words. -/
theorem firsts_apply (x : FVec Ideal S512x8192 .f32) (r : Fin 512) (k : Fin 16) :
    firsts x (ix2 r k) = BitVec.ofNat 32 (place (fun i : Fin 8192 => x (ix2 r i)) (k.castLE (by decide))).val := by
  unfold firsts
  rw [extractStridedSlice_apply _ _ _ _ (ix2 r (k.castLE (by decide) : Fin 8192)) (fun a => by
    match a with
    | ⟨0, _⟩ => exact (Nat.zero_add _).symm
    | ⟨1, _⟩ => exact (Nat.zero_add _).symm)]
  unfold order Host.sort2
  rw [dif_pos (by decide)]
  have h : ∀ i : Fin 8192, (ix2 r (k.castLE (by decide) : Fin 8192) : S512x8192.Idx).along (1 : Fin 2) i = ix2 r i := fun i =>
    funext fun a => by
      match a with
      | ⟨0, _⟩ => rfl
      | ⟨1, _⟩ => rfl
  show BitVec.ofNat 32 ((((ix2 r (k.castLE (by decide) : Fin 8192) : S512x8192.Idx).along (1 : Fin 2)
      (sortedFrom (n := 8192) (fun i j => comparator_f32_i32_d1 (Host.negf x (Shape.Idx.along _ (1 : Fin 2) i), _) (Host.negf x (Shape.Idx.along _ (1 : Fin 2) j), _) == 1#1)
        (k.castLE (by decide)))) (1 : Fin 2)).val) = _
  rw [h]
  refine congrArg (fun R : Fin 8192 → Fin 8192 → Bool => BitVec.ofNat 32 (sortedFrom R (k.castLE (by decide))).val) ?_
  funext i j
  rw [h, h]
  refine (congrArg (· == 1#1) (comparator_eq _ _ _ _)).trans ?_
  show (BitVec.ofBool (decide (-x (ix2 r i) < -x (ix2 r j))) == 1#1) = decide (-x (ix2 r i) < -x (ix2 r j))
  cases decide (-x (ix2 r i) < -x (ix2 r j)) <;> rfl

/-- Entry `k` of a row of the reference's result exceeds `v` exactly if more than `k` entries of the argument's row do. -/
theorem lt_refOut (X : FVec Ideal S512x8192 .bf16) (v : EReal) (r : Fin 512) (k : Fin 16) :
    v < refOut X (ix2 r k) ↔ k.val < above v (fun i : Fin 8192 => X (ix2 r i)) := by
  have h : refOut X (ix2 r k) = ((fun i : Fin 8192 => X (ix2 r i)) ∘ place fun i : Fin 8192 => X (ix2 r i)) (k.castLE (by decide)) :=
    entriesAt_apply (firsts_apply (extf .f32 X bitsLt_bf16_f32)) _ r k
  rw [h, lt_antitone (place_antitone _), above_rearranged v _ (place_bijective _)]
  rfl

end Cert.TopK.Ref

end
-- ==== Proof.Equation.lean ====
/-
  The equation between the kernel and the reference over the extended reals.

  Both results are told by how many entries of a row exceed a threshold: the kernel counts them in a device's own
  columns and in its mate's, the reference in the whole row. The two devices' columns make up the row, so the counts,
  and with them the results, are the same on every device.
-/
module

public import proofs.«01_k».proof.Proof.Frames
public import proofs.«01_k».proof.Proof.Value
public import proofs.«01_k».proof.Proof.Reference
public import Idealize.ShloMosaic.Lib.Pipeline.ValueKit.Geometry

@[expose] public section

noncomputable section

namespace Cert.TopK

open Cert.KernelIdeal Cert.KernelIdeal.Gen
open Idealize.ShloMosaic Idealize.ShloMosaic.TcCoe Idealize.ShloMosaic.ValueIdx Idealize.ShloMosaic.Pipeline Idealize.SL.Sem

section Arrays
variable {F : FTy → Type} [FloatOps F]
variable (m : (ℓ : Loc nD τ sig) → Buf (Elt F) ℓ) (ρ : Dev nD → PrngReg)

/-- The launch copies in a device's whole block of `x`. -/
theorem xBlock_eq (c : Dev nD) : xBlock m ρ c = m ((c : Thread nD τ).loc main_arg0) := by
  unfold xBlock
  funext i
  refine congrArg (m ((c : Thread nD τ).loc main_arg0)) (funext fun a => Fin.ext ?_)
  show ((win0_0.rect (0 : Fin 1)).emb i a).val = (i a).val
  exact Window.rect_emb_val_of_index_zero _ _ _ (by revert a; decide +kernel) i

set_option maxRecDepth 65536 in
/-- The launch writes back the whole result. -/
theorem end_out (c : Dev nD) : endArr m ρ c (1 : Fin 2) = outAt m ρ c :=
  (dats (F := F) m ρ 0 c).arrAt_eq_of_after_last (1 : Fin 2) ⟨0, by decide⟩ (by decide +kernel : win0_1.WholeAt (⟨0, by decide⟩ : Fin grid0.N)) _ fun _ => rfl

end Arrays

/-- The part of the columns a device's block is: 0 or 1. -/
def part (c : Dev nD) : ℕ := (Layout.meshBlock [2, 2] ![[], [0]] c (by decide) (1 : Fin 2)).val

/-- A device and its mate have different parts. -/
theorem parts (c : Dev nD) : (part c = 0 ∧ part (mate c) = 1) ∨ (part c = 1 ∧ part (mate c) = 0) := by
  revert c; decide

/-- A device's block of the whole array. -/
abbrev blockOf (X : FVec Ideal ⟨2, ![512, 8192]⟩ .bf16) (c : Dev nD) : FVec Ideal S512x4096 .bf16 :=
  Layout.blockN ⟨2, ![512, 4096]⟩ ⟨2, ![512, 8192]⟩ (Layout.meshBlock [2, 2] ![[], [0]] c) X

/-- An entry of a device's block is the entry of the array at the block's place. -/
theorem blockOf_apply (X : FVec Ideal ⟨2, ![512, 8192]⟩ .bf16) (c : Dev nD) (r : Fin 512) (i : Fin 4096) (j : Fin 8192)
    (hj : j.val = part c * 4096 + i.val) : blockOf X c (ix2 r i) = X (ix2 r j) :=
  congrArg X (funext fun a => Fin.ext (by
    match a with
    | ⟨0, _⟩ => exact (by show 0 * 512 + r.val = r.val; omega)
    | ⟨1, _⟩ => exact hj.symm))

/-- The entries above a threshold in a row are those in a device's columns and those in its mate's. -/
theorem above_blocks (X : FVec Ideal ⟨2, ![512, 8192]⟩ .bf16) (c : Dev nD) (r : Fin 512) (v : EReal) :
    above (n := 4096) v (rowOf (blockOf X c) r) + above (n := 4096) v (rowOf (blockOf X (mate c)) r)
      = above v (fun i : Fin 8192 => X (ix2 r i)) := by
  have lo : ∀ d, part d = 0 → rowOf (blockOf X d) r = fun i : Fin 4096 => X (ix2 r (Fin.castAdd 4096 i : Fin (4096 + 4096))) := fun d hd =>
    funext fun i => blockOf_apply X d r i _ (by rw [hd]; show i.val = 0 * 4096 + i.val; omega)
  have hi : ∀ d, part d = 1 → rowOf (blockOf X d) r = fun i : Fin 4096 => X (ix2 r (Fin.natAdd 4096 i : Fin (4096 + 4096))) := fun d hd =>
    funext fun i => blockOf_apply X d r i _ (by rw [hd]; show 4096 + i.val = 1 * 4096 + i.val; omega)
  refine Eq.trans ?_ (above_append (a := 4096) (b := 4096) v fun i => X (ix2 r i)).symm
  rcases parts c with ⟨h, h'⟩ | ⟨h, h'⟩
  · rw [lo c h, hi _ h']
  · rw [hi c h, lo _ h', Nat.add_comm]

/-- Every device's result is the reference's. -/
theorem out_eq (X : FVec Ideal ⟨2, ![512, 8192]⟩ .bf16) (c : Dev nD) :
    outOf (topOf (blockOf X c)) (topOf (blockOf X (mate c))) = Ref.refOut X := by
  funext i
  obtain ⟨r, k, rfl⟩ : ∃ (r : Fin 512) (k : Fin 16), i = ix2 r k := ⟨i 0, i 1, eq_ix2 i⟩
  refine eq_of_thresholds fun v => ?_
  rw [Ref.lt_refOut, ← above_blocks X c r v]
  exact lt_outOf (blockOf X c) (blockOf X (mate c)) v r k

/-- Over the extended reals every device of the kernel ends with the reference's result, both arguments unchanged. -/
theorem kernel_eq_reference : Cert.algebraic_KernelIdeal_ReferenceIdeal := by
  intro m g m' g' _ hx
  refine ⟨Ref.refOut (F := Ideal) (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨((h.1 c (1 : Fin 2)).trans (end_out m g c)).trans ?_, (h.1 c (0 : Fin 2)).trans (end_x m g c)⟩) (run_main m g)
    unfold outAt topAt
    rw [xBlock_eq, xBlock_eq, hx c, hx (mate c)]
    exact out_eq _ c
  · exact (θ_run Cert.ReferenceIdeal.defs _ _).mono (fun r h => h 0) (Cert.ReferenceIdeal.Value.run (F := Ideal) m' g')

end Cert.TopK

end
-- ==== Proof.lean ====
/-
  The claim, assembled: the frames and the equation between kernel and reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts,
    Cert.TopK.frame_kernel, Cert.TopK.frame_ideal, Cert.TopK.frame_reference, trivial,
    Cert.TopK.kernel_eq_reference⟩

end Cert.Proof

end
